-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![512, 65536]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![512, 65536]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S512x512 : Shape := ⟨2, ![512, 512]⟩
abbrev S4x128x512 : Shape := ⟨3, ![4, 128, 512]⟩
abbrev S8x16x512 : Shape := ⟨3, ![8, 16, 512]⟩
abbrev S128x512 : Shape := ⟨2, ![128, 512]⟩
abbrev S4 : Shape := ⟨1, ![4]⟩
abbrev S8 : Shape := ⟨1, ![8]⟩
abbrev S_ : Shape := ⟨0, ![]⟩
abbrev S1 : Shape := ⟨1, ![1]⟩
abbrev S1x128x512 : Shape := ⟨3, ![1, 128, 512]⟩
abbrev S1x16x512 : Shape := ⟨3, ![1, 16, 512]⟩
abbrev S16x512 : Shape := ⟨2, ![16, 512]⟩

abbrev nBuf : Space → Nat
  | .hbm => 3
  | .vmem => 10
  | .smem => 0
  | _ => 0

abbrev bufTy : (tb : Table) → Fin (tcTables nBuf tb) → BufTy
  | .hbm, ⟨0, _⟩ => ⟨S512x2048, .bf16⟩
  | .hbm, ⟨1, _⟩ => ⟨S512x2048, .bf16⟩
  | .hbm, ⟨2, _⟩ => ⟨S512x512, .f32⟩
  | .local _ .vmem, ⟨0, _⟩ => ⟨S512x2048, .bf16⟩
  | .local _ .vmem, ⟨1, _⟩ => ⟨S512x2048, .bf16⟩
  | .local _ .vmem, ⟨2, _⟩ => ⟨S512x512, .f32⟩
  | .local _ .vmem, ⟨3, _⟩ => ⟨S4x128x512, .bf16⟩
  | .local _ .vmem, ⟨4, _⟩ => ⟨S4x128x512, .bf16⟩
  | .local _ .vmem, ⟨5, _⟩ => ⟨S8x16x512, .bf16⟩
  | .local _ .vmem, ⟨6, _⟩ => ⟨S8x16x512, .bf16⟩
  | .local _ .vmem, ⟨7, _⟩ => ⟨S8x16x512, .bf16⟩
  | .local _ .vmem, ⟨8, _⟩ => ⟨S128x512, .bf16⟩
  | .local _ .vmem, ⟨9, _⟩ => ⟨S4x128x512, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_6 : BitVec 32 := 1#32
  let v22 : BitVec 32 := Scalar.addi v19 c1_i32_6
  let c4_i32 : BitVec 32 := 4#32
  let v23 : BitVec 32 := Scalar.remsi v22 c4_i32
  let c8_i32_7 : BitVec 32 := 8#32
  let v24 : BitVec 32 := Scalar.muli v23 c8_i32_7
  let c8_i32_5 : BitVec 32 := 8#32
  let v20 : BitVec 32 := Scalar.remsi v2 c8_i32_5
  let v25 : BitVec 32 := Scalar.addi v24 v20
  let c1_i32_9 : BitVec 32 := 1#32
  let v26 : BitVec 32 := Scalar.muli v25 c1_i32_9
  let v27 : BitVec 32 := Scalar.addi c0_i32_10 v26
  v27.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32 : BitVec 32 := 2#32
  let v28 : BitVec 32 := Scalar.addi v19 c2_i32
  let c4_i32_11 : BitVec 32 := 4#32
  let v29 : BitVec 32 := Scalar.remsi v28 c4_i32_11
  let c8_i32_12 : BitVec 32 := 8#32
  let v30 : BitVec 32 := Scalar.muli v29 c8_i32_12
  let c8_i32_5 : BitVec 32 := 8#32
  let v20 : BitVec 32 := Scalar.remsi v2 c8_i32_5
  let v31 : BitVec 32 := Scalar.addi v30 v20
  let c1_i32_14 : BitVec 32 := 1#32
  let v32 : BitVec 32 := Scalar.muli v31 c1_i32_14
  let v33 : BitVec 32 := Scalar.addi c0_i32_15 v32
  v33.toNat
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v34 : BitVec 32 := Scalar.addi v19 c3_i32
  let c4_i32_16 : BitVec 32 := 4#32
  let v35 : BitVec 32 := Scalar.remsi v34 c4_i32_16
  let c8_i32_17 : BitVec 32 := 8#32
  let v36 : BitVec 32 := Scalar.muli v35 c8_i32_17
  let c8_i32_5 : BitVec 32 := 8#32
  let v20 : BitVec 32 := Scalar.remsi v2 c8_i32_5
  let v37 : BitVec 32 := Scalar.addi v36 v20
  let c1_i32_19 : BitVec 32 := 1#32
  let v38 : BitVec 32 := Scalar.muli v37 c1_i32_19
  let v39 : BitVec 32 := Scalar.addi c0_i32_20 v38
  v39.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_21 : BitVec 32 := 8#32
  let v40 : BitVec 32 := Scalar.muli v19 c8_i32_21
  let c8_i32_5 : BitVec 32 := 8#32
  let v20 : BitVec 32 := Scalar.remsi v2 c8_i32_5
  let c1_i32_22 : BitVec 32 := 1#32
  let v41 : BitVec 32 := Scalar.addi v20 c1_i32_22
  let c8_i32_23 : BitVec 32 := 8#32
  let v42 : BitVec 32 := Scalar.remsi v41 c8_i32_23
  let v43 : BitVec 32 := Scalar.addi v40 v42
  let c1_i32_25 : BitVec 32 := 1#32
  let v44 : BitVec 32 := Scalar.muli v43 c1_i32_25
  let v45 : BitVec 32 := Scalar.addi c0_i32_26 v44
  v45.toNat
def k0_dev5 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_27 : BitVec 32 := 8#32
  let v46 : BitVec 32 := Scalar.muli v19 c8_i32_27
  let c8_i32_5 : BitVec 32 := 8#32
  let v20 : BitVec 32 := Scalar.remsi v2 c8_i32_5
  let c2_i32_28 : BitVec 32 := 2#32
  let v47 : BitVec 32 := Scalar.addi v20 c2_i32_28
  let c8_i32_29 : BitVec 32 := 8#32
  let v48 : BitVec 32 := Scalar.remsi v47 c8_i32_29
  let v49 : BitVec 32 := Scalar.addi v46 v48
  let c1_i32_31 : BitVec 32 := 1#32
  let v50 : BitVec 32 := Scalar.muli v49 c1_i32_31
  let v51 : BitVec 32 := Scalar.addi c0_i32_32 v50
  v51.toNat
def k0_dev6 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v52 : BitVec 32 := Scalar.muli v19 c8_i32_33
  let c8_i32_5 : BitVec 32 := 8#32
  let v20 : BitVec 32 := Scalar.remsi v2 c8_i32_5
  let c3_i32_34 : BitVec 32 := 3#32
  let v53 : BitVec 32 := Scalar.addi v20 c3_i32_34
  let c8_i32_35 : BitVec 32 := 8#32
  let v54 : BitVec 32 := Scalar.remsi v53 c8_i32_35
  let v55 : BitVec 32 := Scalar.addi v52 v54
  let c1_i32_37 : BitVec 32 := 1#32
  let v56 : BitVec 32 := Scalar.muli v55 c1_i32_37
  let v57 : BitVec 32 := Scalar.addi c0_i32_38 v56
  v57.toNat
def k0_dev7 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_39 : BitVec 32 := 8#32
  let v58 : BitVec 32 := Scalar.muli v19 c8_i32_39
  let c8_i32_5 : BitVec 32 := 8#32
  let v20 : BitVec 32 := Scalar.remsi v2 c8_i32_5
  let c4_i32_40 : BitVec 32 := 4#32
  let v59 : BitVec 32 := Scalar.addi v20 c4_i32_40
  let c8_i32_41 : BitVec 32 := 8#32
  let v60 : BitVec 32 := Scalar.remsi v59 c8_i32_41
  let v61 : BitVec 32 := Scalar.addi v58 v60
  let c1_i32_43 : BitVec 32 := 1#32
  let v62 : BitVec 32 := Scalar.muli v61 c1_i32_43
  let v63 : BitVec 32 := Scalar.addi c0_i32_44 v62
  v63.toNat
def k0_dev8 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_45 : BitVec 32 := 8#32
  let v64 : BitVec 32 := Scalar.muli v19 c8_i32_45
  let c8_i32_5 : BitVec 32 := 8#32
  let v20 : BitVec 32 := Scalar.remsi v2 c8_i32_5
  let c5_i32 : BitVec 32 := 5#32
  let v65 : BitVec 32 := Scalar.addi v20 c5_i32
  let c8_i32_46 : BitVec 32 := 8#32
  let v66 : BitVec 32 := Scalar.remsi v65 c8_i32_46
  let v67 : BitVec 32 := Scalar.addi v64 v66
  let c1_i32_48 : BitVec 32 := 1#32
  let v68 : BitVec 32 := Scalar.muli v67 c1_i32_48
  let v69 : BitVec 32 := Scalar.addi c0_i32_49 v68
  v69.toNat
def k0_dev9 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v70 : BitVec 32 := Scalar.muli v19 c8_i32_50
  let c8_i32_5 : BitVec 32 := 8#32
  let v20 : BitVec 32 := Scalar.remsi v2 c8_i32_5
  let c6_i32 : BitVec 32 := 6#32
  let v71 : BitVec 32 := Scalar.addi v20 c6_i32
  let c8_i32_51 : BitVec 32 := 8#32
  let v72 : BitVec 32 := Scalar.remsi v71 c8_i32_51
  let v73 : BitVec 32 := Scalar.addi v70 v72
  let c1_i32_53 : BitVec 32 := 1#32
  let v74 : BitVec 32 := Scalar.muli v73 c1_i32_53
  let v75 : BitVec 32 := Scalar.addi c0_i32_54 v74
  v75.toNat
def k0_dev10 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_55 : BitVec 32 := 8#32
  let v76 : BitVec 32 := Scalar.muli v19 c8_i32_55
  let c8_i32_5 : BitVec 32 := 8#32
  let v20 : BitVec 32 := Scalar.remsi v2 c8_i32_5
  let c7_i32 : BitVec 32 := 7#32
  let v77 : BitVec 32 := Scalar.addi v20 c7_i32
  let c8_i32_56 : BitVec 32 := 8#32
  let v78 : BitVec 32 := Scalar.remsi v77 c8_i32_56
  let v79 : BitVec 32 := Scalar.addi v76 v78
  let c1_i32_58 : BitVec 32 := 1#32
  let v80 : BitVec 32 := Scalar.muli v79 c1_i32_58
  let v81 : BitVec 32 := Scalar.addi c0_i32_59 v80
  v81.toNat
def k0_off1 (d0 : Dev nD) (c1_i32_66 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v92 : BitVec 32 := Scalar.addi v19 c1_i32_66
  let c4_i32_67 : BitVec 32 := 4#32
  let v93 : BitVec 32 := Scalar.remsi v92 c4_i32_67
  ![v93.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_71 : BitVec 32 := 0#32
  let c0_i32_72 : BitVec 32 := 0#32
  ![v19.toNat, 0, 0]
def k0_off4 (d0 : Dev nD) (c1_i32_66 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v92 : BitVec 32 := Scalar.addi v19 c1_i32_66
  let c4_i32_67 : BitVec 32 := 4#32
  let v93 : BitVec 32 := Scalar.remsi v92 c4_i32_67
  let c0_i32_73 : BitVec 32 := 0#32
  let c0_i32_74 : BitVec 32 := 0#32
  ![v93.toNat, 0, 0]
def k0_dev11 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_66 : BitVec 32 := 1#32
  let v92 : BitVec 32 := Scalar.addi v19 c1_i32_66
  let c4_i32_67 : BitVec 32 := 4#32
  let v93 : BitVec 32 := Scalar.remsi v92 c4_i32_67
  let c8_i32_68 : BitVec 32 := 8#32
  let v94 : BitVec 32 := Scalar.muli v93 c8_i32_68
  let c8_i32_5 : BitVec 32 := 8#32
  let v20 : BitVec 32 := Scalar.remsi v2 c8_i32_5
  let v95 : BitVec 32 := Scalar.addi v94 v20
  let c1_i32_69 : BitVec 32 := 1#32
  let v96 : BitVec 32 := Scalar.muli v95 c1_i32_69
  let v97 : BitVec 32 := Scalar.addi c0_i32_70 v96
  v97.toNat
def k0_dev12 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_75 : BitVec 32 := 2#32
  let v106 : BitVec 32 := Scalar.addi v19 c2_i32_75
  let c4_i32_76 : BitVec 32 := 4#32
  let v107 : BitVec 32 := Scalar.remsi v106 c4_i32_76
  let c8_i32_77 : BitVec 32 := 8#32
  let v108 : BitVec 32 := Scalar.muli v107 c8_i32_77
  let c8_i32_5 : BitVec 32 := 8#32
  let v20 : BitVec 32 := Scalar.remsi v2 c8_i32_5
  let v109 : BitVec 32 := Scalar.addi v108 v20
  let c1_i32_78 : BitVec 32 := 1#32
  let v110 : BitVec 32 := Scalar.muli v109 c1_i32_78
  let v111 : BitVec 32 := Scalar.addi c0_i32_79 v110
  v111.toNat
def k0_dev13 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_84 : BitVec 32 := 3#32
  let v120 : BitVec 32 := Scalar.addi v19 c3_i32_84
  let c4_i32_85 : BitVec 32 := 4#32
  let v121 : BitVec 32 := Scalar.remsi v120 c4_i32_85
  let c8_i32_86 : BitVec 32 := 8#32
  let v122 : BitVec 32 := Scalar.muli v121 c8_i32_86
  let c8_i32_5 : BitVec 32 := 8#32
  let v20 : BitVec 32 := Scalar.remsi v2 c8_i32_5
  let v123 : BitVec 32 := Scalar.addi v122 v20
  let c1_i32_87 : BitVec 32 := 1#32
  let v124 : BitVec 32 := Scalar.muli v123 c1_i32_87
  let v125 : BitVec 32 := Scalar.addi c0_i32_88 v124
  v125.toNat
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v134 : Index := Scalar.indexCast v19
  let c0_93 : Index := 0#32
  let c0_94 : Index := 0#32
  ![v134.toNat, 0, 0]
def k0_off6 (d0 : Dev nD) (c1_i32_131 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v185 : BitVec 32 := Scalar.addi v20 c1_i32_131
  let c8_i32_132 : BitVec 32 := 8#32
  let v186 : BitVec 32 := Scalar.remsi v185 c8_i32_132
  ![v186.toNat]
def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  ![v20.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_136 : BitVec 32 := 0#32
  let c0_i32_137 : BitVec 32 := 0#32
  ![v20.toNat, 0, 0]
def k0_off9 (d0 : Dev nD) (c1_i32_131 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v185 : BitVec 32 := Scalar.addi v20 c1_i32_131
  let c8_i32_132 : BitVec 32 := 8#32
  let v186 : BitVec 32 := Scalar.remsi v185 c8_i32_132
  let c0_i32_138 : BitVec 32 := 0#32
  let c0_i32_139 : BitVec 32 := 0#32
  ![v186.toNat, 0, 0]
def k0_dev14 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_133 : BitVec 32 := 8#32
  let v187 : BitVec 32 := Scalar.muli v19 c8_i32_133
  let c8_i32_5 : BitVec 32 := 8#32
  let v20 : BitVec 32 := Scalar.remsi v2 c8_i32_5
  let c1_i32_131 : BitVec 32 := 1#32
  let v185 : BitVec 32 := Scalar.addi v20 c1_i32_131
  let c8_i32_132 : BitVec 32 := 8#32
  let v186 : BitVec 32 := Scalar.remsi v185 c8_i32_132
  let v188 : BitVec 32 := Scalar.addi v187 v186
  let c1_i32_134 : BitVec 32 := 1#32
  let v189 : BitVec 32 := Scalar.muli v188 c1_i32_134
  let v190 : BitVec 32 := Scalar.addi c0_i32_135 v189
  v190.toNat
def k0_dev15 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_142 : BitVec 32 := 8#32
  let v201 : BitVec 32 := Scalar.muli v19 c8_i32_142
  let c8_i32_5 : BitVec 32 := 8#32
  let v20 : BitVec 32 := Scalar.remsi v2 c8_i32_5
  let c2_i32_140 : BitVec 32 := 2#32
  let v199 : BitVec 32 := Scalar.addi v20 c2_i32_140
  let c8_i32_141 : BitVec 32 := 8#32
  let v200 : BitVec 32 := Scalar.remsi v199 c8_i32_141
  let v202 : BitVec 32 := Scalar.addi v201 v200
  let c1_i32_143 : BitVec 32 := 1#32
  let v203 : BitVec 32 := Scalar.muli v202 c1_i32_143
  let v204 : BitVec 32 := Scalar.addi c0_i32_144 v203
  v204.toNat
def k0_dev16 (d0 : Dev nD) : Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_151 : BitVec 32 := 8#32
  let v215 : BitVec 32 := Scalar.muli v19 c8_i32_151
  let c8_i32_5 : BitVec 32 := 8#32
  let v20 : BitVec 32 := Scalar.remsi v2 c8_i32_5
  let c3_i32_149 : BitVec 32 := 3#32
  let v213 : BitVec 32 := Scalar.addi v20 c3_i32_149
  let c8_i32_150 : BitVec 32 := 8#32
  let v214 : BitVec 32 := Scalar.remsi v213 c8_i32_150
  let v216 : BitVec 32 := Scalar.addi v215 v214
  let c1_i32_152 : BitVec 32 := 1#32
  let v217 : BitVec 32 := Scalar.muli v216 c1_i32_152
  let v218 : BitVec 32 := Scalar.addi c0_i32_153 v217
  v218.toNat
def k0_dev17 (d0 : Dev nD) : Nat :=
  let c0_i32_162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_160 : BitVec 32 := 8#32
  let v229 : BitVec 32 := Scalar.muli v19 c8_i32_160
  let c8_i32_5 : BitVec 32 := 8#32
  let v20 : BitVec 32 := Scalar.remsi v2 c8_i32_5
  let c4_i32_158 : BitVec 32 := 4#32
  let v227 : BitVec 32 := Scalar.addi v20 c4_i32_158
  let c8_i32_159 : BitVec 32 := 8#32
  let v228 : BitVec 32 := Scalar.remsi v227 c8_i32_159
  let v230 : BitVec 32 := Scalar.addi v229 v228
  let c1_i32_161 : BitVec 32 := 1#32
  let v231 : BitVec 32 := Scalar.muli v230 c1_i32_161
  let v232 : BitVec 32 := Scalar.addi c0_i32_162 v231
  v232.toNat
def k0_dev18 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_169 : BitVec 32 := 8#32
  let v243 : BitVec 32 := Scalar.muli v19 c8_i32_169
  let c8_i32_5 : BitVec 32 := 8#32
  let v20 : BitVec 32 := Scalar.remsi v2 c8_i32_5
  let c5_i32_167 : BitVec 32 := 5#32
  let v241 : BitVec 32 := Scalar.addi v20 c5_i32_167
  let c8_i32_168 : BitVec 32 := 8#32
  let v242 : BitVec 32 := Scalar.remsi v241 c8_i32_168
  let v244 : BitVec 32 := Scalar.addi v243 v242
  let c1_i32_170 : BitVec 32 := 1#32
  let v245 : BitVec 32 := Scalar.muli v244 c1_i32_170
  let v246 : BitVec 32 := Scalar.addi c0_i32_171 v245
  v246.toNat
def k0_dev19 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_178 : BitVec 32 := 8#32
  let v257 : BitVec 32 := Scalar.muli v19 c8_i32_178
  let c8_i32_5 : BitVec 32 := 8#32
  let v20 : BitVec 32 := Scalar.remsi v2 c8_i32_5
  let c6_i32_176 : BitVec 32 := 6#32
  let v255 : BitVec 32 := Scalar.addi v20 c6_i32_176
  let c8_i32_177 : BitVec 32 := 8#32
  let v256 : BitVec 32 := Scalar.remsi v255 c8_i32_177
  let v258 : BitVec 32 := Scalar.addi v257 v256
  let c1_i32_179 : BitVec 32 := 1#32
  let v259 : BitVec 32 := Scalar.muli v258 c1_i32_179
  let v260 : BitVec 32 := Scalar.addi c0_i32_180 v259
  v260.toNat
def k0_dev20 (d0 : Dev nD) : Nat :=
  let c0_i32_189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_187 : BitVec 32 := 8#32
  let v271 : BitVec 32 := Scalar.muli v19 c8_i32_187
  let c8_i32_5 : BitVec 32 := 8#32
  let v20 : BitVec 32 := Scalar.remsi v2 c8_i32_5
  let c7_i32_185 : BitVec 32 := 7#32
  let v269 : BitVec 32 := Scalar.addi v20 c7_i32_185
  let c8_i32_186 : BitVec 32 := 8#32
  let v270 : BitVec 32 := Scalar.remsi v269 c8_i32_186
  let v272 : BitVec 32 := Scalar.addi v271 v270
  let c1_i32_188 : BitVec 32 := 1#32
  let v273 : BitVec 32 := Scalar.muli v272 c1_i32_188
  let v274 : BitVec 32 := Scalar.addi c0_i32_189 v273
  v274.toNat
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v283 : Index := Scalar.indexCast v20
  let c0_194 : Index := 0#32
  let c0_195 : Index := 0#32
  ![v283.toNat, 0, 0]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_265 : BitVec 32 := 8#32
  let v377 : BitVec 32 := Scalar.muli v19 c8_i32_265
  let c8_i32_5 : BitVec 32 := 8#32
  let v20 : BitVec 32 := Scalar.remsi v2 c8_i32_5
  let v378 : BitVec 32 := Scalar.addi v377 v20
  let c16_i32 : BitVec 32 := 16#32
  let v379 : BitVec 32 := Scalar.muli v378 c16_i32
  let v380 : Index := Scalar.indexCast v379
  let c0_266 : Index := 0#32
  ![v380.toNat, 0]
def k0_dev21 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_271 : BitVec 32 := 8#32
  let v389 : BitVec 32 := Scalar.muli v19 c8_i32_271
  let c8_i32_5 : BitVec 32 := 8#32
  let v20 : BitVec 32 := Scalar.remsi v2 c8_i32_5
  let c1_i32_269 : BitVec 32 := 1#32
  let v387 : BitVec 32 := Scalar.addi v20 c1_i32_269
  let c8_i32_270 : BitVec 32 := 8#32
  let v388 : BitVec 32 := Scalar.remsi v387 c8_i32_270
  let v390 : BitVec 32 := Scalar.addi v389 v388
  let c1_i32_272 : BitVec 32 := 1#32
  let v391 : BitVec 32 := Scalar.muli v390 c1_i32_272
  let v392 : BitVec 32 := Scalar.addi c0_i32_273 v391
  v392.toNat
def k0_dev22 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_280 : BitVec 32 := 8#32
  let v403 : BitVec 32 := Scalar.muli v19 c8_i32_280
  let c8_i32_5 : BitVec 32 := 8#32
  let v20 : BitVec 32 := Scalar.remsi v2 c8_i32_5
  let c2_i32_278 : BitVec 32 := 2#32
  let v401 : BitVec 32 := Scalar.addi v20 c2_i32_278
  let c8_i32_279 : BitVec 32 := 8#32
  let v402 : BitVec 32 := Scalar.remsi v401 c8_i32_279
  let v404 : BitVec 32 := Scalar.addi v403 v402
  let c1_i32_281 : BitVec 32 := 1#32
  let v405 : BitVec 32 := Scalar.muli v404 c1_i32_281
  let v406 : BitVec 32 := Scalar.addi c0_i32_282 v405
  v406.toNat
def k0_dev23 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_289 : BitVec 32 := 8#32
  let v417 : BitVec 32 := Scalar.muli v19 c8_i32_289
  let c8_i32_5 : BitVec 32 := 8#32
  let v20 : BitVec 32 := Scalar.remsi v2 c8_i32_5
  let c3_i32_287 : BitVec 32 := 3#32
  let v415 : BitVec 32 := Scalar.addi v20 c3_i32_287
  let c8_i32_288 : BitVec 32 := 8#32
  let v416 : BitVec 32 := Scalar.remsi v415 c8_i32_288
  let v418 : BitVec 32 := Scalar.addi v417 v416
  let c1_i32_290 : BitVec 32 := 1#32
  let v419 : BitVec 32 := Scalar.muli v418 c1_i32_290
  let v420 : BitVec 32 := Scalar.addi c0_i32_291 v419
  v420.toNat
def k0_dev24 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_298 : BitVec 32 := 8#32
  let v431 : BitVec 32 := Scalar.muli v19 c8_i32_298
  let c8_i32_5 : BitVec 32 := 8#32
  let v20 : BitVec 32 := Scalar.remsi v2 c8_i32_5
  let c4_i32_296 : BitVec 32 := 4#32
  let v429 : BitVec 32 := Scalar.addi v20 c4_i32_296
  let c8_i32_297 : BitVec 32 := 8#32
  let v430 : BitVec 32 := Scalar.remsi v429 c8_i32_297
  let v432 : BitVec 32 := Scalar.addi v431 v430
  let c1_i32_299 : BitVec 32 := 1#32
  let v433 : BitVec 32 := Scalar.muli v432 c1_i32_299
  let v434 : BitVec 32 := Scalar.addi c0_i32_300 v433
  v434.toNat
def k0_dev25 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_307 : BitVec 32 := 8#32
  let v445 : BitVec 32 := Scalar.muli v19 c8_i32_307
  let c8_i32_5 : BitVec 32 := 8#32
  let v20 : BitVec 32 := Scalar.remsi v2 c8_i32_5
  let c5_i32_305 : BitVec 32 := 5#32
  let v443 : BitVec 32 := Scalar.addi v20 c5_i32_305
  let c8_i32_306 : BitVec 32 := 8#32
  let v444 : BitVec 32 := Scalar.remsi v443 c8_i32_306
  let v446 : BitVec 32 := Scalar.addi v445 v444
  let c1_i32_308 : BitVec 32 := 1#32
  let v447 : BitVec 32 := Scalar.muli v446 c1_i32_308
  let v448 : BitVec 32 := Scalar.addi c0_i32_309 v447
  v448.toNat
def k0_dev26 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_316 : BitVec 32 := 8#32
  let v459 : BitVec 32 := Scalar.muli v19 c8_i32_316
  let c8_i32_5 : BitVec 32 := 8#32
  let v20 : BitVec 32 := Scalar.remsi v2 c8_i32_5
  let c6_i32_314 : BitVec 32 := 6#32
  let v457 : BitVec 32 := Scalar.addi v20 c6_i32_314
  let c8_i32_315 : BitVec 32 := 8#32
  let v458 : BitVec 32 := Scalar.remsi v457 c8_i32_315
  let v460 : BitVec 32 := Scalar.addi v459 v458
  let c1_i32_317 : BitVec 32 := 1#32
  let v461 : BitVec 32 := Scalar.muli v460 c1_i32_317
  let v462 : BitVec 32 := Scalar.addi c0_i32_318 v461
  v462.toNat
def k0_dev27 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_325 : BitVec 32 := 8#32
  let v473 : BitVec 32 := Scalar.muli v19 c8_i32_325
  let c8_i32_5 : BitVec 32 := 8#32
  let v20 : BitVec 32 := Scalar.remsi v2 c8_i32_5
  let c7_i32_323 : BitVec 32 := 7#32
  let v471 : BitVec 32 := Scalar.addi v20 c7_i32_323
  let c8_i32_324 : BitVec 32 := 8#32
  let v472 : BitVec 32 := Scalar.remsi v471 c8_i32_324
  let v474 : BitVec 32 := Scalar.addi v473 v472
  let c1_i32_326 : BitVec 32 := 1#32
  let v475 : BitVec 32 := Scalar.muli v474 c1_i32_326
  let v476 : BitVec 32 := Scalar.addi c0_i32_327 v475
  v476.toNat
def k0_dev28 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_400 : BitVec 32 := 1#32
  let v574 : BitVec 32 := Scalar.addi v19 c1_i32_400
  let c4_i32_401 : BitVec 32 := 4#32
  let v575 : BitVec 32 := Scalar.remsi v574 c4_i32_401
  let c8_i32_402 : BitVec 32 := 8#32
  let v576 : BitVec 32 := Scalar.muli v575 c8_i32_402
  let c8_i32_5 : BitVec 32 := 8#32
  let v20 : BitVec 32 := Scalar.remsi v2 c8_i32_5
  let v577 : BitVec 32 := Scalar.addi v576 v20
  let c1_i32_403 : BitVec 32 := 1#32
  let v578 : BitVec 32 := Scalar.muli v577 c1_i32_403
  let v579 : BitVec 32 := Scalar.addi c0_i32_404 v578
  v579.toNat
def k0_dev29 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_407 : BitVec 32 := 2#32
  let v586 : BitVec 32 := Scalar.addi v19 c2_i32_407
  let c4_i32_408 : BitVec 32 := 4#32
  let v587 : BitVec 32 := Scalar.remsi v586 c4_i32_408
  let c8_i32_409 : BitVec 32 := 8#32
  let v588 : BitVec 32 := Scalar.muli v587 c8_i32_409
  let c8_i32_5 : BitVec 32 := 8#32
  let v20 : BitVec 32 := Scalar.remsi v2 c8_i32_5
  let v589 : BitVec 32 := Scalar.addi v588 v20
  let c1_i32_410 : BitVec 32 := 1#32
  let v590 : BitVec 32 := Scalar.muli v589 c1_i32_410
  let v591 : BitVec 32 := Scalar.addi c0_i32_411 v590
  v591.toNat
def k0_dev30 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_414 : BitVec 32 := 3#32
  let v598 : BitVec 32 := Scalar.addi v19 c3_i32_414
  let c4_i32_415 : BitVec 32 := 4#32
  let v599 : BitVec 32 := Scalar.remsi v598 c4_i32_415
  let c8_i32_416 : BitVec 32 := 8#32
  let v600 : BitVec 32 := Scalar.muli v599 c8_i32_416
  let c8_i32_5 : BitVec 32 := 8#32
  let v20 : BitVec 32 := Scalar.remsi v2 c8_i32_5
  let v601 : BitVec 32 := Scalar.addi v600 v20
  let c1_i32_417 : BitVec 32 := 1#32
  let v602 : BitVec 32 := Scalar.muli v601 c1_i32_417
  let v603 : BitVec 32 := Scalar.addi c0_i32_418 v602
  v603.toNat
abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x65536 : Shape := ⟨2, ![512, 65536]⟩
abbrev S65536x512 : Shape := ⟨2, ![65536, 512]⟩
abbrev S512x512 : Shape := ⟨2, ![512, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x65536, .bf16⟩
  | .hbm, ⟨1, _⟩ => ⟨S512x65536, .bf16⟩
  | .hbm, ⟨2, _⟩ => ⟨S512x65536, .f32⟩
  | .hbm, ⟨3, _⟩ => ⟨S512x65536, .f32⟩
  | .hbm, ⟨4, _⟩ => ⟨S65536x512, .f32⟩
  | .hbm, ⟨5, _⟩ => ⟨S512x512, .f32⟩
  | _, _ => ⟨S512x65536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.KernelIdeal.Program.lean ====
/-
# The kernel's program as a sequence of loops

The printed body is one straight line of ninety effects.  It is a sequence of fourteen loops (two of signals,
four of sends, four of landing waits, four of departure waits) with whole-block computations between them.  This
module writes that sequence down and proves it equal to the printed body.

A device `c` of the 32 has the coordinates `c / 8` (its row, 0..3) and `c % 8` (its column, 0..7).  The first and
the last exchange run between the four devices of one column, the two exchanges between them run between the
eight devices of one row.  A loop over the three (or seven) peers visits them in ring order after the device itself.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Proto

open Cert.KernelIdeal Cert.KernelIdeal.Gen
open Idealize.ShloMosaic Idealize.SL.Sem

variable {F : FTy → Type} [FloatOps F]

/-- A program of this kernel. -/
abbrev P (α : Type) : Type 1 := Prog (TpuEff nD τ sig (Elt F) Λ₀ .tc) α

/-- Run `op` at each element of a list, in order. -/
def loop {α : Type} (op : α → P (F := F) PUnit) : List α → P (F := F) PUnit
  | [] => pure ⟨⟩
  | a :: l => op a >>= fun _ => loop op l

/-- The peers of a column, and of a row, by their distance (less one) along the ring. -/
abbrev peers3 : List (Fin 3) := [0, 1, 2]
abbrev peers7 : List (Fin 7) := [0, 1, 2, 3, 4, 5, 6]

/-! ## The devices each loop names -/

/-- The devices of the column, as the first loop of signals names them. -/
def sigZ (c : Dev nD) : Fin 3 → Dev nD
  | 0 => ⟨k0_dev1 c, k0_dev1_lt c⟩
  | 1 => ⟨k0_dev2 c, k0_dev2_lt c⟩
  | 2 => ⟨k0_dev3 c, k0_dev3_lt c⟩

/-- The devices of the row, as the second loop of signals names them. -/
def sigQ (c : Dev nD) : Fin 7 → Dev nD
  | 0 => ⟨k0_dev4 c, k0_dev4_lt c⟩
  | 1 => ⟨k0_dev5 c, k0_dev5_lt c⟩
  | 2 => ⟨k0_dev6 c, k0_dev6_lt c⟩
  | 3 => ⟨k0_dev7 c, k0_dev7_lt c⟩
  | 4 => ⟨k0_dev8 c, k0_dev8_lt c⟩
  | 5 => ⟨k0_dev9 c, k0_dev9_lt c⟩
  | 6 => ⟨k0_dev10 c, k0_dev10_lt c⟩

/-- The destinations of the first exchange (along the column). -/
def dstA (c : Dev nD) : Fin 3 → Dev nD
  | 0 => ⟨k0_dev11 c, k0_dev11_lt c⟩
  | 1 => ⟨k0_dev12 c, k0_dev12_lt c⟩
  | 2 => ⟨k0_dev13 c, k0_dev13_lt c⟩

/-- The destinations of the second exchange (along the row). -/
def dstB (c : Dev nD) : Fin 7 → Dev nD
  | 0 => ⟨k0_dev14 c, k0_dev14_lt c⟩
  | 1 => ⟨k0_dev15 c, k0_dev15_lt c⟩
  | 2 => ⟨k0_dev16 c, k0_dev16_lt c⟩
  | 3 => ⟨k0_dev17 c, k0_dev17_lt c⟩
  | 4 => ⟨k0_dev18 c, k0_dev18_lt c⟩
  | 5 => ⟨k0_dev19 c, k0_dev19_lt c⟩
  | 6 => ⟨k0_dev20 c, k0_dev20_lt c⟩

/-- The destinations of the third exchange (along the row). -/
def dstBp (c : Dev nD) : Fin 7 → Dev nD
  | 0 => ⟨k0_dev21 c, k0_dev21_lt c⟩
  | 1 => ⟨k0_dev22 c, k0_dev22_lt c⟩
  | 2 => ⟨k0_dev23 c, k0_dev23_lt c⟩
  | 3 => ⟨k0_dev24 c, k0_dev24_lt c⟩
  | 4 => ⟨k0_dev25 c, k0_dev25_lt c⟩
  | 5 => ⟨k0_dev26 c, k0_dev26_lt c⟩
  | 6 => ⟨k0_dev27 c, k0_dev27_lt c⟩

/-- The destinations of the fourth exchange (along the column). -/
def dstAp (c : Dev nD) : Fin 3 → Dev nD
  | 0 => ⟨k0_dev28 c, k0_dev28_lt c⟩
  | 1 => ⟨k0_dev29 c, k0_dev29_lt c⟩
  | 2 => ⟨k0_dev30 c, k0_dev30_lt c⟩

/-! ## The buffers and their blocks -/

abbrev dyM : Memref sig .tc .vmem S512x2048 .bf16 := Memref.whole cc0_stg0_0
abbrev wM : Memref sig .tc .vmem S512x2048 .bf16 := Memref.whole cc0_stg1_0
abbrev outM : Memref sig .tc .vmem S512x512 .f32 := Memref.whole cc0_stg2_0
/-- The device's partial product, and what lands of the column's partial products. -/
abbrev pbM : Memref sig .tc .vmem S4x128x512 .bf16 := Memref.whole cc0_scratch0
abbrev zbM : Memref sig .tc .vmem S4x128x512 .bf16 := Memref.whole cc0_scratch1
/-- The column's sum, and what lands of the row's. -/
abbrev zaM : Memref sig .tc .vmem S8x16x512 .bf16 := Memref.whole cc0_scratch2
abbrev ppM : Memref sig .tc .vmem S8x16x512 .bf16 := Memref.whole cc0_scratch3
/-- The gathered sixteenths, the block they make, and the gathered blocks. -/
abbrev gpM : Memref sig .tc .vmem S8x16x512 .bf16 := Memref.whole cc0_scratch4
abbrev blM : Memref sig .tc .vmem S128x512 .bf16 := Memref.whole cc0_scratch5
abbrev gzM : Memref sig .tc .vmem S4x128x512 .bf16 := Memref.whole cc0_scratch6

/-- The number of a peer as the program's word. -/
abbrev wd3 (r : Fin 3) : BitVec 32 := BitVec.ofNat 32 (1 + r.val)
abbrev wd7 (r : Fin 7) : BitVec 32 := BitVec.ofNat 32 (1 + r.val)

/-- The block of the device's own row, and of a peer's, in a buffer of four blocks. -/
abbrev own4 (b : Memref sig .tc .vmem S4x128x512 .bf16) (c : Dev nD) : Memref sig .tc .vmem S128x512 .bf16 :=
  (b.slice (Rect.unit (s := S4x128x512) (k0_off3 c) S1x128x512.size (k0_off3_inb c)) (fun _ => rfl)).squeeze S128x512 squeezes_S1x128x512_S128x512
abbrev peer4 (b : Memref sig .tc .vmem S4x128x512 .bf16) (c : Dev nD) (r : Fin 3) : Memref sig .tc .vmem S128x512 .bf16 :=
  (b.slice (Rect.unit (s := S4x128x512) (k0_off4 c (wd3 r)) S1x128x512.size (k0_off4_inb c r)) (fun _ => rfl)).squeeze S128x512 squeezes_S1x128x512_S128x512
/-- The block of the device's own column, and of a peer's, in a buffer of eight blocks. -/
abbrev own8 (b : Memref sig .tc .vmem S8x16x512 .bf16) (c : Dev nD) : Memref sig .tc .vmem S16x512 .bf16 :=
  (b.slice (Rect.unit (s := S8x16x512) (k0_off8 c) S1x16x512.size (k0_off8_inb c)) (fun _ => rfl)).squeeze S16x512 squeezes_S1x16x512_S16x512
abbrev peer8 (b : Memref sig .tc .vmem S8x16x512 .bf16) (c : Dev nD) (r : Fin 7) : Memref sig .tc .vmem S16x512 .bf16 :=
  (b.slice (Rect.unit (s := S8x16x512) (k0_off9 c (wd7 r)) S1x16x512.size (k0_off9_inb c r)) (fun _ => rfl)).squeeze S16x512 squeezes_S1x16x512_S16x512
/-- The same blocks as the vector operations address them. -/
abbrev blk4 (c : Dev nD) : Rect S4x128x512 := Rect.unit (s := S4x128x512) (k0_off5 c) S1x128x512.size (k0_off5_inb c)
abbrev blk8 (c : Dev nD) : Rect S8x16x512 := Rect.unit (s := S8x16x512) (k0_off10 c) S1x16x512.size (k0_off10_inb c)
abbrev all4 : Rect S4x128x512 := Rect.unit (s := S4x128x512) ![0, 0, 0] S4x128x512.size inb_S4x128x512_S4x128x512_0_0_0
abbrev all8 : Rect S8x16x512 := Rect.unit (s := S8x16x512) ![0, 0, 0] S8x16x512.size inb_S8x16x512_S8x16x512_0_0_0
abbrev allB : Rect S128x512 := Rect.unit (s := S128x512) ![0, 0] S128x512.size inb_S128x512_S128x512_0_0
abbrev allI : Rect S512x2048 := Rect.unit (s := S512x2048) ![0, 0] S512x2048.size inb_S512x2048_S512x2048_0_0
abbrev allO : Rect S512x512 := Rect.unit (s := S512x512) ![0, 0] S512x512.size inb_S512x512_S512x512_0_0
abbrev rowsO (c : Dev nD) : Rect S512x512 := Rect.unit (s := S512x512) (k0_off11 c) S16x512.size (k0_off11_inb c)

/-! ## The semaphores -/

/-- The runtime's barrier semaphore. -/
abbrev barS : Sem sig := (SemArray.scalar (sig.barrier 0 rfl) : Sems sig S_).sem
abbrev ownS4 (a : DmaSems sig S4) (c : Dev nD) : DmaSem sig :=
  ((a.slice (Rect.unit (s := S4) (k0_off2 c) S1.size (k0_off2_inb c))).squeeze S_ squeezes_S1_S_).sem
abbrev peerS4 (a : DmaSems sig S4) (c : Dev nD) (r : Fin 3) : DmaSem sig :=
  ((a.slice (Rect.unit (s := S4) (k0_off1 c (wd3 r)) S1.size (k0_off1_inb c r))).squeeze S_ squeezes_S1_S_).sem
abbrev ownS8 (a : DmaSems sig S8) (c : Dev nD) : DmaSem sig :=
  ((a.slice (Rect.unit (s := S8) (k0_off7 c) S1.size (k0_off7_inb c))).squeeze S_ squeezes_S1_S_).sem
abbrev peerS8 (a : DmaSems sig S8) (c : Dev nD) (r : Fin 7) : DmaSem sig :=
  ((a.slice (Rect.unit (s := S8) (k0_off6 c (wd7 r)) S1.size (k0_off6_inb c r))).squeeze S_ squeezes_S1_S_).sem

/-! ## The effects of the loops -/

/-- A signal of one unit onto a device's barrier. -/
def signal (d : Dev nD) : P (F := F) PUnit := semSignalWord d barS 1#32
/-- The wait for the ten signals. -/
def waitBar : P (F := F) PUnit := semWaitWord barS 10#32

/-- First exchange: block `zs c r` of the partial product goes to the peer of that row. -/
def sendA (c : Dev nD) (r : Fin 3) : P (F := F) PUnit :=
  Prog.lift (.enqueueDma (peer4 pbM c r) (.remote (Dev.tc (dstA c r)) (own4 zbM c) (.dma (peerS4 cc0_scratch7 c r))) (.dma (ownS4 cc0_scratch8 c))
    (((Memref.isWhole_whole _).wordExact_slice rfl _ (k0_off4_wordsbf16 c r)).reshape _ _) (((Memref.isWhole_whole _).wordExact_slice rfl _ (k0_off3_wordsbf16 c)).reshape _ _) ⟨⟨rfl, Or.inl rfl⟩, trivial⟩)
/-- Second exchange: block `qs c r` of the column's sum goes to the peer of that column. -/
def sendB (c : Dev nD) (r : Fin 7) : P (F := F) PUnit :=
  Prog.lift (.enqueueDma (peer8 zaM c r) (.remote (Dev.tc (dstB c r)) (own8 ppM c) (.dma (peerS8 cc0_scratch9 c r))) (.dma (ownS8 cc0_scratch10 c))
    (((Memref.isWhole_whole _).wordExact_slice rfl _ (k0_off9_wordsbf16 c r)).reshape _ _) (((Memref.isWhole_whole _).wordExact_slice rfl _ (k0_off8_wordsbf16 c)).reshape _ _) ⟨⟨rfl, Or.inl rfl⟩, trivial⟩)
/-- Third exchange: the device's sixteenth goes to every device of its row. -/
def sendBp (c : Dev nD) (r : Fin 7) : P (F := F) PUnit :=
  Prog.lift (.enqueueDma (own8 gpM c) (.remote (Dev.tc (dstBp c r)) (own8 gpM c) (.dma (peerS8 cc0_scratch11 c r))) (.dma (ownS8 cc0_scratch12 c))
    (((Memref.isWhole_whole _).wordExact_slice rfl _ (k0_off8_wordsbf16 c)).reshape _ _) (((Memref.isWhole_whole _).wordExact_slice rfl _ (k0_off8_wordsbf16 c)).reshape _ _) ⟨⟨rfl, Or.inl rfl⟩, trivial⟩)
/-- Fourth exchange: the row's block goes to every device of the column. -/
def sendAp (c : Dev nD) (r : Fin 3) : P (F := F) PUnit :=
  Prog.lift (.enqueueDma blM (.remote (Dev.tc (dstAp c r)) (own4 gzM c) (.dma (peerS4 cc0_scratch13 c r))) (.dma (ownS4 cc0_scratch14 c))
    ((Memref.isWhole_whole _).wordExact) (((Memref.isWhole_whole _).wordExact_slice rfl _ (k0_off3_wordsbf16 c)).reshape _ _) ⟨⟨rfl, Or.inl rfl⟩, trivial⟩)

/-- The landing waits of the four exchanges. -/
def landA (c : Dev nD) (r : Fin 3) : P (F := F) PUnit :=
  Prog.lift (.waitDma2 (peerS4 cc0_scratch8 c r) (peer4 pbM c r) (peer4 zbM c r) (((Memref.isWhole_whole _).wordExact_slice rfl _ (k0_off4_wordsbf16 c r)).reshape _ _) (((Memref.isWhole_whole _).wordExact_slice rfl _ (k0_off4_wordsbf16 c r)).reshape _ _))
/-- Of the second. -/
def landB (c : Dev nD) (r : Fin 7) : P (F := F) PUnit :=
  Prog.lift (.waitDma2 (peerS8 cc0_scratch10 c r) (peer8 zaM c r) (peer8 ppM c r) (((Memref.isWhole_whole _).wordExact_slice rfl _ (k0_off9_wordsbf16 c r)).reshape _ _) (((Memref.isWhole_whole _).wordExact_slice rfl _ (k0_off9_wordsbf16 c r)).reshape _ _))
/-- Of the third. -/
def landBp (c : Dev nD) (r : Fin 7) : P (F := F) PUnit :=
  Prog.lift (.waitDma2 (peerS8 cc0_scratch12 c r) (peer8 gpM c r) (peer8 gpM c r) (((Memref.isWhole_whole _).wordExact_slice rfl _ (k0_off9_wordsbf16 c r)).reshape _ _) (((Memref.isWhole_whole _).wordExact_slice rfl _ (k0_off9_wordsbf16 c r)).reshape _ _))
/-- Of the fourth. -/
def landAp (c : Dev nD) (r : Fin 3) : P (F := F) PUnit :=
  Prog.lift (.waitDma2 (peerS4 cc0_scratch14 c r) blM (peer4 gzM c r) ((Memref.isWhole_whole _).wordExact) (((Memref.isWhole_whole _).wordExact_slice rfl _ (k0_off4_wordsbf16 c r)).reshape _ _))

/-- The departure waits of the four exchanges. -/
def leftA (c : Dev nD) (r : Fin 3) : P (F := F) PUnit :=
  Prog.lift (.waitDma2 (peerS4 cc0_scratch7 c r) (own4 zbM c) (peer4 pbM c r) (((Memref.isWhole_whole _).wordExact_slice rfl _ (k0_off3_wordsbf16 c)).reshape _ _) (((Memref.isWhole_whole _).wordExact_slice rfl _ (k0_off4_wordsbf16 c r)).reshape _ _))
/-- Of the second. -/
def leftB (c : Dev nD) (r : Fin 7) : P (F := F) PUnit :=
  Prog.lift (.waitDma2 (peerS8 cc0_scratch9 c r) (own8 ppM c) (peer8 zaM c r) (((Memref.isWhole_whole _).wordExact_slice rfl _ (k0_off8_wordsbf16 c)).reshape _ _) (((Memref.isWhole_whole _).wordExact_slice rfl _ (k0_off9_wordsbf16 c r)).reshape _ _))
/-- Of the third. -/
def leftBp (c : Dev nD) (r : Fin 7) : P (F := F) PUnit :=
  Prog.lift (.waitDma2 (peerS8 cc0_scratch11 c r) (own8 gpM c) (own8 gpM c) (((Memref.isWhole_whole _).wordExact_slice rfl _ (k0_off8_wordsbf16 c)).reshape _ _) (((Memref.isWhole_whole _).wordExact_slice rfl _ (k0_off8_wordsbf16 c)).reshape _ _))
/-- Of the fourth. -/
def leftAp (c : Dev nD) (r : Fin 3) : P (F := F) PUnit :=
  Prog.lift (.waitDma2 (peerS4 cc0_scratch13 c r) (own4 gzM c) blM (((Memref.isWhole_whole _).wordExact_slice rfl _ (k0_off3_wordsbf16 c)).reshape _ _) ((Memref.isWhole_whole _).wordExact))

/-! ## The computations between the loops -/

/-- The partial product, rounded and cut into four blocks. -/
def comp1 : P (F := F) PUnit := do
  let x : Vec F S512x2048 .bf16 ← Prog.lift (.load dyM allI.toLoadRect (View.loadsAt_vmem h_S512x2048))
  let y : Vec F S512x2048 .bf16 ← Prog.lift (.load wM allI.toLoadRect (View.loadsAt_vmem h_S512x2048))
  let _o : Vec F S4x128x512 .bf16 ← Prog.lift (.load pbM all4.toLoadRect (View.loadsAt_vmem h_S4x128x512))
  Prog.lift (.store pbM all4 (k0_pay2 (k0_pay1 x y)) Finset.univ (View.stores_vmem h_S4x128x512 ((Memref.isWhole_whole _).storeExact_slice rfl _ (packedbf16_S4x128x512_S4x128x512_0_0_0)) (fun _ => rfl)) (.inl rfl))

/-- The device's own block of its partial product. -/
def comp2 (c : Dev nD) : P (F := F) PUnit := do
  let x : Vec F S1x128x512 .bf16 ← Prog.lift (.load pbM (blk4 c).toLoadRect (View.loadsAt_vmem h_S1x128x512))
  let _o : Vec F S1x128x512 .bf16 ← Prog.lift (.load zbM (blk4 c).toLoadRect (View.loadsAt_vmem h_S1x128x512))
  Prog.lift (.store zbM (blk4 c) (k0_pay3 x) Finset.univ (View.stores_vmem h_S1x128x512 ((Memref.isWhole_whole _).storeExact_slice rfl _ (k0_off5_packedbf16 c)) (fun _ => rfl)) (.inl rfl))

/-- The column's sum, cut into eight. -/
def comp3 : P (F := F) PUnit := do
  let x : Vec F S4x128x512 .bf16 ← Prog.lift (.load zbM all4.toLoadRect (View.loadsAt_vmem h_S4x128x512))
  let _o : Vec F S8x16x512 .bf16 ← Prog.lift (.load zaM all8.toLoadRect (View.loadsAt_vmem h_S8x16x512))
  Prog.lift (.store zaM all8 (k0_pay4 x) Finset.univ (View.stores_vmem h_S8x16x512 ((Memref.isWhole_whole _).storeExact_slice rfl _ (packedbf16_S8x16x512_S8x16x512_0_0_0)) (fun _ => rfl)) (.inl rfl))

/-- The device's own sixteenth of the column's sum. -/
def comp4 (c : Dev nD) : P (F := F) PUnit := do
  let x : Vec F S1x16x512 .bf16 ← Prog.lift (.load zaM (blk8 c).toLoadRect (View.loadsAt_vmem h_S1x16x512))
  let _o : Vec F S1x16x512 .bf16 ← Prog.lift (.load ppM (blk8 c).toLoadRect (View.loadsAt_vmem h_S1x16x512))
  Prog.lift (.store ppM (blk8 c) (k0_pay5 x) Finset.univ (View.stores_vmem h_S1x16x512 ((Memref.isWhole_whole _).storeExact_slice rfl _ (k0_off10_packedbf16 c)) (fun _ => rfl)) (.inl rfl))

/-- The sum over the row, kept in the result's rows and in the buffer that is sent on. -/
def comp5 (c : Dev nD) : P (F := F) PUnit := do
  let x : Vec F S8x16x512 .bf16 ← Prog.lift (.load ppM all8.toLoadRect (View.loadsAt_vmem h_S8x16x512))
  let _o : Vec F S16x512 .f32 ← Prog.lift (.load outM (rowsO c).toLoadRect (View.loadsAt_vmem h_S16x512))
  Prog.lift (.store outM (rowsO c) (k0_pay6 x) Finset.univ (View.stores_vmem_bits_univ h_S16x512 rfl) (.inl rfl))
  let _p : Vec F S1x16x512 .bf16 ← Prog.lift (.load gpM (blk8 c).toLoadRect (View.loadsAt_vmem h_S1x16x512))
  Prog.lift (.store gpM (blk8 c) (k0_pay7 x) Finset.univ (View.stores_vmem h_S1x16x512 ((Memref.isWhole_whole _).storeExact_slice rfl _ (k0_off10_packedbf16 c)) (fun _ => rfl)) (.inl rfl))

/-- The row's block of the result. -/
def comp6 : P (F := F) PUnit := do
  let x : Vec F S8x16x512 .bf16 ← Prog.lift (.load gpM all8.toLoadRect (View.loadsAt_vmem h_S8x16x512))
  let _o : Vec F S128x512 .bf16 ← Prog.lift (.load blM allB.toLoadRect (View.loadsAt_vmem h_S128x512))
  Prog.lift (.store blM allB (k0_pay8 x) Finset.univ (View.stores_vmem h_S128x512 ((Memref.isWhole_whole _).storeExact_slice rfl _ (packedbf16_S128x512_S128x512_0_0)) (fun _ => rfl)) (.inl rfl))

/-- The row's block among the gathered ones. -/
def comp7 (c : Dev nD) : P (F := F) PUnit := do
  let x : Vec F S128x512 .bf16 ← Prog.lift (.load blM allB.toLoadRect (View.loadsAt_vmem h_S128x512))
  let _o : Vec F S1x128x512 .bf16 ← Prog.lift (.load gzM (blk4 c).toLoadRect (View.loadsAt_vmem h_S1x128x512))
  Prog.lift (.store gzM (blk4 c) (k0_pay9 x) Finset.univ (View.stores_vmem h_S1x128x512 ((Memref.isWhole_whole _).storeExact_slice rfl _ (k0_off5_packedbf16 c)) (fun _ => rfl)) (.inl rfl))

/-- The result. -/
def comp8 : P (F := F) PUnit := do
  let x : Vec F S4x128x512 .bf16 ← Prog.lift (.load gzM all4.toLoadRect (View.loadsAt_vmem h_S4x128x512))
  let _o : Vec F S512x512 .f32 ← Prog.lift (.load outM allO.toLoadRect (View.loadsAt_vmem h_S512x512))
  Prog.lift (.store outM allO (k0_pay10 x) Finset.univ (View.stores_vmem_bits_univ h_S512x512 rfl) (.inl rfl))

/-! ## The whole program -/

/-- The kernel at device `c`. -/
def prog (c : Dev nD) : P (F := F) PUnit := do
  loop (fun r => signal (sigZ c r)) peers3
  loop (fun r => signal (sigQ c r)) peers7
  comp1
  waitBar
  loop (sendA c) peers3
  comp2 c
  loop (landA c) peers3
  comp3
  loop (sendB c) peers7
  comp4 c
  loop (landB c) peers7
  comp5 c
  loop (sendBp c) peers7
  loop (landBp c) peers7
  comp6
  loop (sendAp c) peers3
  comp7 c
  loop (landAp c) peers3
  comp8
  loop (leftA c) peers3
  loop (leftB c) peers7
  loop (leftBp c) peers7
  loop (leftAp c) peers3

set_option maxRecDepth 65536 in
/-- The printed body reads its device and runs that program. -/
theorem body_eq_prog :
    cc0_body (F := F) dyM (Memref.isWhole_whole _) wM (Memref.isWhole_whole _) outM (Memref.isWhole_whole _)
      pbM (Memref.isWhole_whole _) zbM (Memref.isWhole_whole _) zaM (Memref.isWhole_whole _) ppM (Memref.isWhole_whole _)
      gpM (Memref.isWhole_whole _) blM (Memref.isWhole_whole _) gzM (Memref.isWhole_whole _)
      cc0_scratch7 cc0_scratch8 cc0_scratch9 cc0_scratch10 cc0_scratch11 cc0_scratch12 cc0_scratch13 cc0_scratch14
    = Prog.lift .deviceId >>= fun c => prog c := by
  rw [cc0_body_eq_skeleton]
  rfl

end Cert.KernelIdeal.Proto

end
-- ==== Proof.KernelIdeal.Protocol.lean ====
/-
# The protocol between the devices

Device `c` of the 32 stands in row `row c` (of 4) and column `col c` (of 8).  Its peers in the column are `pz c r`
(`r < 3`, at row `zs c r`), its peers in the row are `pq c r` (`r < 7`, at column `qs c r`).  The relation is
symmetric: `c` is the peer number `rv3 r` of its peer number `r`.

Per semaphore of a device `c`: who waits, who pays it, how much, and what the payment hands over.

* The barrier.  `c` waits for 10, each of its ten peers signals 1.  The peer `pz c r` hands over its landing blocks
  `row c` of the first and of the fourth exchange; the peer `pq c r` its landing blocks `col c` of the second and of the third.
* Landing semaphores, one per peer's block `k` (the own index is never used), each paid once by a copy of one block.
  First exchange: `pz c r` copies block `row c` of its partial product `PB` onto block `zs c r` of `c`'s landing buffer, so
  that the whole buffer reads `ZB c`.  Second: `pq c r` copies block `col c` of its column's sum `ZA`, the buffer reads
  `PP c`.  Third: `pq c r` copies its sixteenth `G`, the buffer reads `GP c`.  Fourth: `pz c r` copies its row's block `BL`,
  the buffer reads `GZ c`.
* Departure semaphores, one per peer, each paid once by `c`'s own copy to that peer, which hands the source back: in the
  first two exchanges the block sent, in the last two a share of the one source that all copies read.

Order: the ten signals, the partial product, the barrier's wait; then for each exchange its sends and its landing waits (the
computations between them); at the end all departure waits.  A wait on the barrier has level 1, a landing wait of the exchanges
level 2, 3, 4, 5, and a departure wait or a staging wait level 0.  At each wait the device still owes only payments of
higher levels, which is why the waits cannot block one another.
-/
module

public import proofs.«01_k».proof.Proof.KernelIdeal.Program
public import Idealize.ShloMosaic.Lib.Ring
public import Idealize.ShloMosaic.Lib.Rounds
public import Idealize.ShloMosaic.Lib.Transfers
public import Idealize.ShloMosaic.Lib.Pipeline.TalkSites

@[expose] public section

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The devices -/

/-- The row and the column of a device. -/
def row (c : Dev nD) : Fin 4 := ⟨c.val / 8, by have := c.isLt; simp only [nD] at this; omega⟩
def col (c : Dev nD) : Fin 8 := ⟨c.val % 8, by omega⟩
/-- The device at a row and a column. -/
def at2 (z : Fin 4) (q : Fin 8) : Dev nD := ⟨8 * z.val + q.val, by simp only [nD]; omega⟩
/-- The row of the peer number `r` of the column, and the column of the peer number `r` of the row. -/
def zs (c : Dev nD) (r : Fin 3) : Fin 4 := ⟨(c.val / 8 + r.val + 1) % 4, by omega⟩
def qs (c : Dev nD) (r : Fin 7) : Fin 8 := ⟨(c.val % 8 + r.val + 1) % 8, by omega⟩
/-- The peers. -/
def pz (c : Dev nD) (r : Fin 3) : Dev nD := at2 (zs c r) (col c)
def pq (c : Dev nD) (r : Fin 7) : Dev nD := at2 (row c) (qs c r)
/-- The number under which a device's peer knows the device. -/
def rv3 (r : Fin 3) : Fin 3 := ⟨2 - r.val, by omega⟩
def rv7 (r : Fin 7) : Fin 7 := ⟨6 - r.val, by omega⟩

theorem at2_row_col (c : Dev nD) : at2 (row c) (col c) = c := by revert c; decide
theorem row_at2 (z : Fin 4) (q : Fin 8) : row (at2 z q) = z := by revert z q; decide
theorem col_at2 (z : Fin 4) (q : Fin 8) : col (at2 z q) = q := by revert z q; decide
theorem row_pz (c : Dev nD) (r : Fin 3) : row (pz c r) = zs c r := row_at2 _ _
theorem col_pz (c : Dev nD) (r : Fin 3) : col (pz c r) = col c := col_at2 _ _
theorem row_pq (c : Dev nD) (r : Fin 7) : row (pq c r) = row c := row_at2 _ _
theorem col_pq (c : Dev nD) (r : Fin 7) : col (pq c r) = qs c r := col_at2 _ _
theorem pz_pz (c : Dev nD) (r : Fin 3) : pz (pz c r) (rv3 r) = c := by revert c r; decide +kernel
theorem pq_pq (c : Dev nD) (r : Fin 7) : pq (pq c r) (rv7 r) = c := by revert c r; decide +kernel
theorem zs_pz (c : Dev nD) (r : Fin 3) : zs (pz c r) (rv3 r) = row c := by revert c r; decide +kernel
theorem qs_pq (c : Dev nD) (r : Fin 7) : qs (pq c r) (rv7 r) = col c := by revert c r; decide +kernel
theorem rv3_rv3 (r : Fin 3) : rv3 (rv3 r) = r := by revert r; decide
theorem rv7_rv7 (r : Fin 7) : rv7 (rv7 r) = r := by revert r; decide
theorem zs_ne (c : Dev nD) (r : Fin 3) : zs c r ≠ row c := by revert c r; decide +kernel
theorem qs_ne (c : Dev nD) (r : Fin 7) : qs c r ≠ col c := by revert c r; decide +kernel
theorem zs_inj (c : Dev nD) : Function.Injective (zs c) := by revert c; unfold Function.Injective; decide +kernel
theorem qs_inj (c : Dev nD) : Function.Injective (qs c) := by revert c; unfold Function.Injective; decide +kernel
theorem univ4 (c : Dev nD) : (Finset.univ : Finset (Fin 4)) = insert (row c) (Finset.univ.map ⟨zs c, zs_inj c⟩) := by
  revert c; decide +kernel
theorem univ8 (c : Dev nD) : (Finset.univ : Finset (Fin 8)) = insert (col c) (Finset.univ.map ⟨qs c, qs_inj c⟩) := by
  revert c; decide +kernel

/-- Seen from the peer: the pair of a device and a peer number, the other way round. -/
def turn3 : Dev nD × Fin 3 ≃ Dev nD × Fin 3 where
  toFun x := (pz x.1 x.2, rv3 x.2)
  invFun x := (pz x.1 x.2, rv3 x.2)
  left_inv x := by simp only [pz_pz, rv3_rv3]
  right_inv x := by simp only [pz_pz, rv3_rv3]
def turn7 : Dev nD × Fin 7 ≃ Dev nD × Fin 7 where
  toFun x := (pq x.1 x.2, rv7 x.2)
  invFun x := (pq x.1 x.2, rv7 x.2)
  left_inv x := by simp only [pq_pq, rv7_rv7]
  right_inv x := by simp only [pq_pq, rv7_rv7]

/-- The program's device numbers name the peers. -/
theorem sigZ_eq (c : Dev nD) (r : Fin 3) : sigZ c r = pz c r := by revert c r; decide +kernel
theorem sigQ_eq (c : Dev nD) (r : Fin 7) : sigQ c r = pq c r := by revert c r; decide +kernel
theorem dstA_eq (c : Dev nD) (r : Fin 3) : dstA c r = pz c r := by revert c r; decide +kernel
theorem dstB_eq (c : Dev nD) (r : Fin 7) : dstB c r = pq c r := by revert c r; decide +kernel
theorem dstBp_eq (c : Dev nD) (r : Fin 7) : dstBp c r = pq c r := by revert c r; decide +kernel
theorem dstAp_eq (c : Dev nD) (r : Fin 3) : dstAp c r = pz c r := by revert c r; decide +kernel

/-! ## The blocks -/

theorem inb4 (k : Fin 4) : ∀ a : Fin 3, (![k.val, 0, 0] : Fin 3 → Nat) a + S1x128x512.size a ≤ S4x128x512.size a := by
  revert k; decide
theorem inb8 (k : Fin 8) : ∀ a : Fin 3, (![k.val, 0, 0] : Fin 3 → Nat) a + S1x16x512.size a ≤ S8x16x512.size a := by
  revert k; decide
/-- Block `k` of four, and of eight. -/
abbrev rc4 (k : Fin 4) : Rect S4x128x512 := Rect.unit (s := S4x128x512) ![k.val, 0, 0] S1x128x512.size (inb4 k)
abbrev rc8 (k : Fin 8) : Rect S8x16x512 := Rect.unit (s := S8x16x512) ![k.val, 0, 0] S1x16x512.size (inb8 k)
abbrev sl4 (b : Memref sig .tc .vmem S4x128x512 .bf16) (k : Fin 4) : Memref sig .tc .vmem S128x512 .bf16 :=
  (b.slice (rc4 k) (fun _ => rfl)).squeeze S128x512 squeezes_S1x128x512_S128x512
abbrev sl8 (b : Memref sig .tc .vmem S8x16x512 .bf16) (k : Fin 8) : Memref sig .tc .vmem S16x512 .bf16 :=
  (b.slice (rc8 k) (fun _ => rfl)).squeeze S16x512 squeezes_S1x16x512_S16x512

theorem off3_eq (c : Dev nD) : k0_off3 c = ![(row c).val, 0, 0] := by revert c; decide +kernel
theorem off4_eq (c : Dev nD) (r : Fin 3) : k0_off4 c (wd3 r) = ![(zs c r).val, 0, 0] := by revert c r; decide +kernel
theorem off5_eq (c : Dev nD) : k0_off5 c = ![(row c).val, 0, 0] := by revert c; decide +kernel
theorem off8_eq (c : Dev nD) : k0_off8 c = ![(col c).val, 0, 0] := by revert c; decide +kernel
theorem off9_eq (c : Dev nD) (r : Fin 7) : k0_off9 c (wd7 r) = ![(qs c r).val, 0, 0] := by revert c r; decide +kernel
theorem off10_eq (c : Dev nD) : k0_off10 c = ![(col c).val, 0, 0] := by revert c; decide +kernel

theorem rect_congr {s : Shape} {o o' size : Fin s.rank → Nat} (h : o = o') (hi : ∀ a, o a + size a ≤ s.size a)
    (hi' : ∀ a, o' a + size a ≤ s.size a) : Rect.unit (s := s) o size hi = Rect.unit (s := s) o' size hi' := by
  subst h; rfl

theorem own4_eq (b : Memref sig .tc .vmem S4x128x512 .bf16) (c : Dev nD) : own4 b c = sl4 b (row c) := by
  unfold own4 sl4; congr 1; exact Memref.slice_unit_congr _ (off3_eq c) _ _ _ _
theorem peer4_eq (b : Memref sig .tc .vmem S4x128x512 .bf16) (c : Dev nD) (r : Fin 3) : peer4 b c r = sl4 b (zs c r) := by
  unfold peer4 sl4; congr 1; exact Memref.slice_unit_congr _ (off4_eq c r) _ _ _ _
theorem own8_eq (b : Memref sig .tc .vmem S8x16x512 .bf16) (c : Dev nD) : own8 b c = sl8 b (col c) := by
  unfold own8 sl8; congr 1; exact Memref.slice_unit_congr _ (off8_eq c) _ _ _ _
theorem peer8_eq (b : Memref sig .tc .vmem S8x16x512 .bf16) (c : Dev nD) (r : Fin 7) : peer8 b c r = sl8 b (qs c r) := by
  unfold peer8 sl8; congr 1; exact Memref.slice_unit_congr _ (off9_eq c r) _ _ _ _
theorem blk4_eq (c : Dev nD) : blk4 c = rc4 (row c) := rect_congr (off5_eq c) _ _
theorem blk8_eq (c : Dev nD) : blk8 c = rc8 (col c) := rect_congr (off10_eq c) _ _

/-! ## The semaphores -/

/-- Semaphore `k` of the column's exchanges: 0 and 1 departure and landing of the first, 2 and 3 of the fourth. -/
def semA (j : Fin 4) (k : Fin 4) : DmaSem sig :=
  ⟨(match j with | 0 => 3 | 1 => 7 | 2 => 43 | 3 => 47) + k.val, by revert j k; decide⟩
/-- Semaphore `k` of the row's exchanges: 0 and 1 departure and landing of the second, 2 and 3 of the third. -/
def semB (j : Fin 4) (k : Fin 8) : DmaSem sig :=
  ⟨(match j with | 0 => 11 | 1 => 19 | 2 => 27 | 3 => 35) + k.val, by revert j k; decide⟩

theorem sem7_eq (c : Dev nD) (r : Fin 3) : peerS4 cc0_scratch7 c r = semA 0 (zs c r) := by revert c r; decide +kernel
theorem sem8o_eq (c : Dev nD) : ownS4 cc0_scratch8 c = semA 1 (row c) := by revert c; decide +kernel
theorem sem8_eq (c : Dev nD) (r : Fin 3) : peerS4 cc0_scratch8 c r = semA 1 (zs c r) := by revert c r; decide +kernel
theorem sem9_eq (c : Dev nD) (r : Fin 7) : peerS8 cc0_scratch9 c r = semB 0 (qs c r) := by revert c r; decide +kernel
theorem sem10o_eq (c : Dev nD) : ownS8 cc0_scratch10 c = semB 1 (col c) := by revert c; decide +kernel
theorem sem10_eq (c : Dev nD) (r : Fin 7) : peerS8 cc0_scratch10 c r = semB 1 (qs c r) := by revert c r; decide +kernel
theorem sem11_eq (c : Dev nD) (r : Fin 7) : peerS8 cc0_scratch11 c r = semB 2 (qs c r) := by revert c r; decide +kernel
theorem sem12o_eq (c : Dev nD) : ownS8 cc0_scratch12 c = semB 3 (col c) := by revert c; decide +kernel
theorem sem12_eq (c : Dev nD) (r : Fin 7) : peerS8 cc0_scratch12 c r = semB 3 (qs c r) := by revert c r; decide +kernel
theorem sem13_eq (c : Dev nD) (r : Fin 3) : peerS4 cc0_scratch13 c r = semA 2 (zs c r) := by revert c r; decide +kernel
theorem sem14o_eq (c : Dev nD) : ownS4 cc0_scratch14 c = semA 3 (row c) := by revert c; decide +kernel
theorem sem14_eq (c : Dev nD) (r : Fin 3) : peerS4 cc0_scratch14 c r = semA 3 (zs c r) := by revert c r; decide +kernel

/-- The protocol's semaphores of one device: the barrier, the column's, the row's. -/
abbrev KI : Type := Unit ⊕ (Fin 4 × Fin 4) ⊕ (Fin 4 × Fin 8)
def csem : KI → SemLoc sig
  | .inl _ => .reg barS
  | .inr (.inl x) => .dma (semA x.1 x.2)
  | .inr (.inr x) => .dma (semB x.1 x.2)
/-- The cell `k` of device `c`. -/
abbrev kcell (ck : Dev nD × KI) : GSem nD τ sig := ((ck.1 : Thread nD τ), csem ck.2)
abbrev barC (c : Dev nD) : GSem nD τ sig := kcell (c, .inl ())
abbrev cA (c : Dev nD) (j k : Fin 4) : GSem nD τ sig := kcell (c, .inr (.inl (j, k)))
abbrev cB (c : Dev nD) (j : Fin 4) (k : Fin 8) : GSem nD τ sig := kcell (c, .inr (.inr (j, k)))

/-- Which of the protocol's semaphores a semaphore is. -/
def decode : SemLoc sig → Option KI
  | .reg s => if s = barS then some (.inl ()) else none
  | .dma q =>
    if q.val < 3 then none
    else if q.val < 11 then some (.inr (.inl (if q.val < 7 then 0 else 1, ⟨(q.val + 1) % 4, by omega⟩)))
    else if q.val < 43 then some (.inr (.inr (⟨((q.val - 11) / 8) % 4, by omega⟩, ⟨(q.val - 11) % 8, by omega⟩)))
    else some (.inr (.inl (if q.val < 47 then 2 else 3, ⟨(q.val + 1) % 4, by omega⟩)))
theorem decode_csem (k : KI) : decode (csem k) = some k := by revert k; decide +kernel
theorem csem_injective : Function.Injective csem := fun k k' h =>
  Option.some.inj ((decode_csem k).symm.trans ((congrArg decode h).trans (decode_csem k')))
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## Contents -/

section Contents

variable (m : (ℓ : Loc nD τ sig) → Buf (Elt F) ℓ)

/-- The index with its block number replaced, and the index inside the block. -/
def put4 (k : Fin 4) (i : S4x128x512.Idx) : S4x128x512.Idx := fun | ⟨0, _⟩ => k | ⟨1, _⟩ => i 1 | ⟨2, _⟩ => i 2
def put8 (k : Fin 8) (i : S8x16x512.Idx) : S8x16x512.Idx := fun | ⟨0, _⟩ => k | ⟨1, _⟩ => i 1 | ⟨2, _⟩ => i 2
def in4 (i : S4x128x512.Idx) : S1x128x512.Idx := fun | ⟨0, _⟩ => (0 : Fin 1) | ⟨1, _⟩ => i 1 | ⟨2, _⟩ => i 2
def in8 (i : S8x16x512.Idx) : S1x16x512.Idx := fun | ⟨0, _⟩ => (0 : Fin 1) | ⟨1, _⟩ => i 1 | ⟨2, _⟩ => i 2
/-- The block number of an index. -/
def no4 (i : S4x128x512.Idx) : Fin 4 := i 0
def no8 (i : S8x16x512.Idx) : Fin 8 := i 0

/-- The arguments of device `c`, as staged. -/
def X0 (c : Dev nD) : Vec F S512x2048 .bf16 := (win0_0.blk (0 : Fin 1)).view.read (Elt F) (m ((c : Thread nD τ).loc main_arg0))
def X1 (c : Dev nD) : Vec F S512x2048 .bf16 := (win0_1.blk (0 : Fin 1)).view.read (Elt F) (m ((c : Thread nD τ).loc main_arg1))
/-- The partial product. -/
def PB (c : Dev nD) : FVec F S4x128x512 .bf16 := k0_pay2 (k0_pay1 (X0 m c) (X1 m c))
/-- The column's partial products, of block `row c`. -/
def ZB (c : Dev nD) : FVec F S4x128x512 .bf16 := fun i => PB m (at2 (no4 i) (col c)) (put4 (row c) i)
/-- The column's sum, of that block. -/
def ZA (c : Dev nD) : FVec F S8x16x512 .bf16 := k0_pay4 (ZB m c)
/-- The row's sums, of the sixteenth `col c`. -/
def PP (c : Dev nD) : FVec F S8x16x512 .bf16 := fun i => ZA m (at2 (row c) (no8 i)) (put8 (col c) i)
/-- The result's sixteenth `col c` of block `row c`. -/
def G16 (c : Dev nD) : FVec F S1x16x512 .bf16 := k0_pay7 (PP m c)
/-- The row's sixteenths. -/
def GP (c : Dev nD) : FVec F S8x16x512 .bf16 := fun i => G16 m (at2 (row c) (no8 i)) (in8 i)
/-- The result's block `row c`. -/
def BL (c : Dev nD) : FVec F S128x512 .bf16 := k0_pay8 (GP m c)
/-- The column's blocks. -/
def GZ (c : Dev nD) : FVec F S4x128x512 .bf16 := fun i => k0_pay9 (BL m (at2 (no4 i) (col c))) (in4 i)
/-- The result. -/
def OUT (c : Dev nD) : FVec F S512x512 .f32 := k0_pay10 (GZ m c)

end Contents

/-! ## What the payments hand over -/

/-- The resources: the pipeline's copy of the rounds, the protocol's own. -/
abbrev D : Type := Fin 3 ⊕ Fin 7
abbrev UB : Type := URounds (GSem nD τ sig) D
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-- A share of the fourth and the third exchange's source: `k` below the last goes with the copy to peer `k`, the last stays. -/
abbrev sh4 (k : Fin 4) : PosShare TreeShare := Transfers.dealOf fullShare (Finset.univ : Finset (Fin 4)) k
abbrev sh8 (k : Fin 8) : PosShare TreeShare := Transfers.dealOf fullShare (Finset.univ : Finset (Fin 8)) k

/-- Block `k` of each block buffer of device `c`, at a share and contents. -/
abbrev pbP (c : Dev nD) (k : Fin 4) (f : Buf (Elt F) ((c : Thread nD τ).loc cc0_scratch0)) : sProp 𝕄 :=
  ((c : Thread nD τ).loc cc0_scratch0) ↦[(rc4 k).set]{fullShare} f
abbrev zbP (c : Dev nD) (k : Fin 4) (f : Buf (Elt F) ((c : Thread nD τ).loc cc0_scratch1)) : sProp 𝕄 :=
  ((c : Thread nD τ).loc cc0_scratch1) ↦[(rc4 k).set]{fullShare} f
abbrev zaP (c : Dev nD) (k : Fin 8) (f : Buf (Elt F) ((c : Thread nD τ).loc cc0_scratch2)) : sProp 𝕄 :=
  ((c : Thread nD τ).loc cc0_scratch2) ↦[(rc8 k).set]{fullShare} f
abbrev ppP (c : Dev nD) (k : Fin 8) (f : Buf (Elt F) ((c : Thread nD τ).loc cc0_scratch3)) : sProp 𝕄 :=
  ((c : Thread nD τ).loc cc0_scratch3) ↦[(rc8 k).set]{fullShare} f
abbrev gpP (c : Dev nD) (k : Fin 8) (q : PosShare TreeShare) (f : Buf (Elt F) ((c : Thread nD τ).loc cc0_scratch4)) : sProp 𝕄 :=
  ((c : Thread nD τ).loc cc0_scratch4) ↦[(rc8 k).set]{q} f
abbrev blP (c : Dev nD) (q : PosShare TreeShare) (f : Buf (Elt F) ((c : Thread nD τ).loc cc0_scratch5)) : sProp 𝕄 :=
  ((c : Thread nD τ).loc cc0_scratch5) ↦{q} f
abbrev gzP (c : Dev nD) (k : Fin 4) (f : Buf (Elt F) ((c : Thread nD τ).loc cc0_scratch6)) : sProp 𝕄 :=
  ((c : Thread nD τ).loc cc0_scratch6) ↦[(rc4 k).set]{fullShare} f

/-- The credit of a copy of one block, of the column's exchanges and of the row's. -/
def NA : ℕ := RefSig.tileCredit S128x512 .bf16
def NB : ℕ := RefSig.tileCredit S16x512 .bf16
theorem NA_pos : 0 < NA := by decide +kernel
theorem NB_pos : 0 < NB := by decide +kernel

variable (m : (ℓ : Loc nD τ sig) → Buf (Elt F) ℓ)

/-- The peer number of a column's (a row's) block, as the owner knows it. -/
def peerNo8 (c : Dev nD) (k : Fin 8) : Fin 8 := ⟨(k.val + 7 - (col c).val) % 8, by omega⟩
def peerNo4 (c : Dev nD) (k : Fin 4) : Fin 4 := ⟨(k.val + 3 - (row c).val) % 4, by omega⟩
theorem peerNo8_qs (c : Dev nD) (r : Fin 7) : peerNo8 c (qs c r) = r.castSucc := by revert c r; decide +kernel
theorem peerNo4_zs (c : Dev nD) (r : Fin 3) : peerNo4 c (zs c r) = r.castSucc := by revert c r; decide +kernel

/-- What a payment hands to `c`, per semaphore. -/
def payBar (c : Dev nD) : D → sProp 𝕄
  | .inl r => iprop((∃ f, zbP (F := F) (pz c r) (row c) f) ∗ ∃ f, gzP (F := F) (pz c r) (row c) f)
  | .inr r => iprop((∃ f, ppP (F := F) (pq c r) (col c) f) ∗ ∃ f, gpP (F := F) (pq c r) (col c) fullShare f)
def payA (c : Dev nD) (j k : Fin 4) : sProp 𝕄 := match j with
  | 0 => pbP c k (PB m c)
  | 1 => zbP c k (ZB m c)
  | 2 => blP c (sh4 (peerNo4 c k)) (BL m c)
  | 3 => gzP c k (GZ m c)
def payB (c : Dev nD) (j : Fin 4) (k : Fin 8) : sProp 𝕄 := match j with
  | 0 => zaP c k (ZA m c)
  | 1 => ppP c k (PP m c)
  | 2 => gpP c (col c) (sh8 (peerNo8 c k)) (GP m c)
  | 3 => gpP c k fullShare (GP m c)

instance payBar_storable (c : Dev nD) (d : D) : BI.Storable (upEmb : UEmb _ 𝕄) (payBar (F := F) c d) := by
  unfold payBar; cases d <;> infer_instance
instance payA_storable (c : Dev nD) (j k : Fin 4) : BI.Storable (upEmb : UEmb _ 𝕄) (payA m c j k) := by
  unfold payA; split <;> infer_instance
instance payB_storable (c : Dev nD) (j : Fin 4) (k : Fin 8) : BI.Storable (upEmb : UEmb _ 𝕄) (payB m c j k) := by
  unfold payB; split <;> infer_instance

/-! ## The schedule -/

/-- The payments of each semaphore of device `c`, -/
def dutiesK (c : Dev nD) : Option KI → Finset D
  | some (.inl _) => Finset.univ
  | some (.inr (.inl x)) => if x.2 = row c then ∅ else {.inl 0}
  | some (.inr (.inr x)) => if x.2 = col c then ∅ else {.inl 0}
  | none => ∅
/-- their amounts, -/
def amountK : Option KI → ℕ
  | some (.inl _) => 1
  | some (.inr (.inl _)) => NA
  | some (.inr (.inr _)) => NB
  | none => 1
/-- and what they hand over. -/
def payloadK (c : Dev nD) : Option KI → D → sProp 𝕄
  | some (.inl _), d => payBar c d
  | some (.inr (.inl x)), _ => payA m c x.1 x.2
  | some (.inr (.inr x)), _ => payB m c x.1 x.2
  | none, _ => iprop(emp)

theorem amountK_pos (k : Option KI) : 0 < amountK k := by
  rcases k with _ | (_ | (_ | _)) <;> first | exact Nat.one_pos | exact NA_pos | exact NB_pos

/-- One round. -/
def sched : Rounds.Schedule (GSem nD τ sig) D 𝕄 where
  duties g r := if r = 0 ∧ g.1.2 = .tc then dutiesK g.1.1 (decode g.2) else ∅
  unitless _ := False
  amount g _ _ := amountK (decode g.2)
  payload g _ d := payloadK m g.1.1 (decode g.2) d
  amount_pos g _ _ _ := amountK_pos _

instance sched_payload_storable (g : GSem nD τ sig) (r : ℕ) (d : D) :
    BI.Storable (upEmb : UEmb _ 𝕄) ((sched m).payload g r d) := by
  show BI.Storable upEmb (payloadK m g.1.1 (decode g.2) d)
  rcases decode g.2 with _ | (_ | (_ | _)) <;> (unfold payloadK; infer_instance)

section Sched
variable (c : Dev nD)

theorem duties_bar : (sched m).duties (barC c) 0 = Finset.univ := by
  dsimp only [sched]; rw [if_pos ⟨rfl, rfl⟩, decode_csem]; rfl
theorem duties_A {j k : Fin 4} (h : k ≠ row c) : (sched m).duties (cA c j k) 0 = {.inl 0} := by
  dsimp only [sched]; rw [if_pos ⟨rfl, rfl⟩, decode_csem]; exact if_neg h
theorem duties_B {j : Fin 4} {k : Fin 8} (h : k ≠ col c) : (sched m).duties (cB c j k) 0 = {.inl 0} := by
  dsimp only [sched]; rw [if_pos ⟨rfl, rfl⟩, decode_csem]; exact if_neg h
theorem duties_later (g : GSem nD τ sig) : ∀ r, 1 ≤ r → (sched m).duties g r = ∅ :=
  fun r hr => by dsimp only [sched]; exact if_neg fun h => by omega
theorem duties_ownA (j : Fin 4) : ∀ r, 0 ≤ r → (sched m).duties (cA c j (row c)) r = ∅ := fun r _ => by
  dsimp only [sched]; rw [decode_csem]; split
  · exact if_pos rfl
  · rfl
theorem duties_ownB (j : Fin 4) : ∀ r, 0 ≤ r → (sched m).duties (cB c j (col c)) r = ∅ := fun r _ => by
  dsimp only [sched]; rw [decode_csem]; split
  · exact if_pos rfl
  · rfl
theorem amount_bar (d : D) : (sched m).amount (barC c) 0 d = 1 := by dsimp only [sched]; rw [decode_csem]; rfl
theorem amount_A (j k : Fin 4) (d : D) : (sched m).amount (cA c j k) 0 d = NA := by dsimp only [sched]; rw [decode_csem]; rfl
theorem amount_B (j : Fin 4) (k : Fin 8) (d : D) : (sched m).amount (cB c j k) 0 d = NB := by dsimp only [sched]; rw [decode_csem]; rfl
theorem payload_bar (d : D) : (sched m).payload (barC c) 0 d = payBar c d := by dsimp only [sched]; rw [decode_csem]; rfl
theorem payload_A (j k : Fin 4) (d : D) : (sched m).payload (cA c j k) 0 d = payA m c j k := by dsimp only [sched]; rw [decode_csem]; rfl
theorem payload_B (j : Fin 4) (k : Fin 8) (d : D) : (sched m).payload (cB c j k) 0 d = payB m c j k := by
  dsimp only [sched]; rw [decode_csem]; rfl
theorem expect_bar : (sched m).expect (barC c) 0 = 10 := by
  unfold Schedule.expect Schedule.amountOf
  rw [duties_bar, Finset.sum_congr rfl fun d _ => amount_bar m c d]; rfl
theorem expect_A {j k : Fin 4} (h : k ≠ row c) : (sched m).expect (cA c j k) 0 = NA := by
  unfold Schedule.expect Schedule.amountOf; rw [duties_A m c h, Finset.sum_singleton, amount_A]
theorem expect_B {j : Fin 4} {k : Fin 8} (h : k ≠ col c) : (sched m).expect (cB c j k) 0 = NB := by
  unfold Schedule.expect Schedule.amountOf; rw [duties_B m c h, Finset.sum_singleton, amount_B]
theorem rest_bar : bigSep ((sched m).duties (barC c) 0 \ ∅) (fun d => (sched m).payload (barC c) 0 d)
    = iprop((bigSep Finset.univ fun r : Fin 3 => payBar (F := F) c (.inl r)) ∗ bigSep Finset.univ fun r : Fin 7 => payBar (F := F) c (.inr r)) := by
  rw [Finset.sdiff_empty, duties_bar, bigSep_congr fun d _ => payload_bar m c d, bigSep_univ_sum]; rfl
theorem rest_A {j k : Fin 4} (h : k ≠ row c) :
    bigSep ((sched m).duties (cA c j k) 0 \ ∅) (fun d => (sched m).payload (cA c j k) 0 d) = payA m c j k := by
  rw [Finset.sdiff_empty, duties_A m c h, bigSep_singleton, payload_A]
theorem rest_B {j : Fin 4} {k : Fin 8} (h : k ≠ col c) :
    bigSep ((sched m).duties (cB c j k) 0 \ ∅) (fun d => (sched m).payload (cB c j k) 0 d) = payB m c j k := by
  rw [Finset.sdiff_empty, duties_B m c h, bigSep_singleton, payload_B]

end Sched

/-! ## What each device owes -/

open Idealize.ShloMosaic.TalkSites (Pay tallyL tallyL_append tallyL_pos)

/-- The payments of device `c`, by exchange, in program order. -/
def dueZ (c : Dev nD) (r : Fin 3) : Pay nD τ sig := (barC (pz c r), 1, 1)
def dueQ (c : Dev nD) (r : Fin 7) : Pay nD τ sig := (barC (pq c r), 1, 1)
def dueA (c : Dev nD) (r : Fin 3) : Pay nD τ sig := (cA (pz c r) 1 (row c), 2, NA)
def dueB (c : Dev nD) (r : Fin 7) : Pay nD τ sig := (cB (pq c r) 1 (col c), 3, NB)
def dueBp (c : Dev nD) (r : Fin 7) : Pay nD τ sig := (cB (pq c r) 3 (col c), 4, NB)
def dueAp (c : Dev nD) (r : Fin 3) : Pay nD τ sig := (cA (pz c r) 3 (row c), 5, NA)
/-- What is still owed before the fourth exchange, before the third, and so on. -/
def owed4 (c : Dev nD) : List (Pay nD τ sig) := peers3.map (dueAp c) ++ []
def owed3 (c : Dev nD) : List (Pay nD τ sig) := peers7.map (dueBp c) ++ owed4 c
def owed2 (c : Dev nD) : List (Pay nD τ sig) := peers7.map (dueB c) ++ owed3 c
def owed1 (c : Dev nD) : List (Pay nD τ sig) := peers3.map (dueA c) ++ owed2 c
def owedQ (c : Dev nD) : List (Pay nD τ sig) := peers7.map (dueQ c) ++ owed1 c
def owed0 (c : Dev nD) : List (Pay nD τ sig) := peers3.map (dueZ c) ++ owedQ c

/-- All payments of a list lie above level `i`, on devices' semaphores. -/
def AboveL (i : ℕ) (l : List (Pay nD τ sig)) : Prop := ∀ x ∈ l, i < x.2.1 ∧ x.2.1 < 6 ∧ x.1.1.2 = .tc

theorem aboveL_nil (i : ℕ) : AboveL i [] := fun x hx => absurd hx List.not_mem_nil
theorem aboveL_map {α : Type} (i k : ℕ) (l : List α) (f : α → Pay nD τ sig) (l' : List (Pay nD τ sig)) (hi : i < k) (hk : k < 6)
    (hf : ∀ a, (f a).2.1 = k ∧ (f a).1.1.2 = .tc) (h : AboveL i l') : AboveL i (l.map f ++ l') := fun x hx => by
  rcases List.mem_append.mp hx with hx | hx
  · obtain ⟨a, -, rfl⟩ := List.mem_map.mp hx
    exact ⟨by rw [(hf a).1]; exact hi, by rw [(hf a).1]; exact hk, (hf a).2⟩
  · exact h x hx
theorem above4 (c : Dev nD) (i : ℕ) (h : i < 5) : AboveL i (owed4 c) := aboveL_map i 5 _ _ _ h (by decide) (fun _ => ⟨rfl, rfl⟩) (aboveL_nil i)
theorem above3 (c : Dev nD) (i : ℕ) (h : i < 4) : AboveL i (owed3 c) := aboveL_map i 4 _ _ _ h (by decide) (fun _ => ⟨rfl, rfl⟩) (above4 c i (by omega))
theorem above2 (c : Dev nD) (i : ℕ) (h : i < 3) : AboveL i (owed2 c) := aboveL_map i 3 _ _ _ h (by decide) (fun _ => ⟨rfl, rfl⟩) (above3 c i (by omega))
theorem above1 (c : Dev nD) (i : ℕ) (h : i < 2) : AboveL i (owed1 c) := aboveL_map i 2 _ _ _ h (by decide) (fun _ => ⟨rfl, rfl⟩) (above2 c i (by omega))
theorem above0 (c : Dev nD) : AboveL 0 (owed0 c) :=
  aboveL_map 0 1 _ _ _ (by decide) (by decide) (fun _ => ⟨rfl, rfl⟩)
    (aboveL_map 0 1 _ _ _ (by decide) (by decide) (fun _ => ⟨rfl, rfl⟩) (above1 c 0 (by decide)))

abbrev Lv : GSem nD τ sig → Finset ℕ := SiteBlocks.L 6
abbrev lvl : GSem nD τ sig → ℕ → ℕ := SiteBlocks.lv

/-- A wait at level `i` may be made while everything owed lies above it. -/
theorem mayWait (c : Dev nD) (s : SemLoc sig) (i : ℕ) (hi : i < 6) (l : List (Pay nD τ sig)) (h : AboveL i l) :
    (levAts Lv lvl : sProp 𝕄) ⊢ MayWait (c : Thread nD τ) s i (tallyL l) :=
  SiteBlocks.mayWait_of hi c s _ fun g k hk => by
    obtain ⟨x, hx, rfl, rfl⟩ := tallyL_pos hk
    obtain ⟨h1, h2, h3⟩ := h x hx
    exact ⟨SiteBlocks.mem_L' h3 h2, h1⟩

end Cert.KernelIdeal.Proto

end
-- ==== Proof.KernelIdeal.Blocks.lean ====
/-
# Blocks of the buffers

A buffer of four (or eight) blocks is its blocks; what a copy of one block leaves in the destination block; what a
load of a block reads and a store of a block leaves.
-/
module

public import proofs.«01_k».proof.Proof.KernelIdeal.Protocol
public import Idealize.ShloMosaic.Lib.Pipeline.Value

@[expose] public section

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## All blocks: the device's own and its peers' -/

theorem bigSep4 (c : Dev nD) (Φ : Fin 4 → sProp 𝕄) :
    bigSep Finset.univ Φ = iprop(Φ (row c) ∗ bigSep Finset.univ fun r : Fin 3 => Φ (zs c r)) := by
  rw [univ4 c, bigSep_insert (by simp [zs_ne]), bigSep_map]; rfl
theorem bigSep8 (c : Dev nD) (Φ : Fin 8 → sProp 𝕄) :
    bigSep Finset.univ Φ = iprop(Φ (col c) ∗ bigSep Finset.univ fun r : Fin 7 => Φ (qs c r)) := by
  rw [univ8 c, bigSep_insert (by simp [qs_ne]), bigSep_map]; rfl

/-! ## Indices -/

theorem emb4_0 (k : Fin 4) (x : S1x128x512.Idx) : no4 ((rc4 k).emb x) = k := by
  apply Fin.ext
  show (((rc4 k).emb x 0 : Fin _) : ℕ) = k.val
  rw [Rect.emb_apply]
  have : (x 0 : ℕ) = 0 := by have := (x 0).isLt; exact Nat.lt_one_iff.mp this
  show k.val + 1 * (x 0 : ℕ) = k.val
  omega
theorem emb8_0 (k : Fin 8) (x : S1x16x512.Idx) : no8 ((rc8 k).emb x) = k := by
  apply Fin.ext
  show (((rc8 k).emb x 0 : Fin _) : ℕ) = k.val
  rw [Rect.emb_apply]
  have : (x 0 : ℕ) = 0 := by have := (x 0).isLt; exact Nat.lt_one_iff.mp this
  show k.val + 1 * (x 0 : ℕ) = k.val
  omega
theorem emb4_1 (k : Fin 4) (x : S1x128x512.Idx) : ((rc4 k).emb x) 1 = x 1 := by
  apply Fin.ext; rw [Rect.emb_apply]; show 0 + 1 * (x 1 : ℕ) = _; omega
theorem emb4_2 (k : Fin 4) (x : S1x128x512.Idx) : ((rc4 k).emb x) 2 = x 2 := by
  apply Fin.ext; rw [Rect.emb_apply]; show 0 + 1 * (x 2 : ℕ) = _; omega
theorem emb8_1 (k : Fin 8) (x : S1x16x512.Idx) : ((rc8 k).emb x) 1 = x 1 := by
  apply Fin.ext; rw [Rect.emb_apply]; show 0 + 1 * (x 1 : ℕ) = _; omega
theorem emb8_2 (k : Fin 8) (x : S1x16x512.Idx) : ((rc8 k).emb x) 2 = x 2 := by
  apply Fin.ext; rw [Rect.emb_apply]; show 0 + 1 * (x 2 : ℕ) = _; omega
/-- Two indices are equal if their three coordinates are. -/
theorem idx4_ext {i j : S4x128x512.Idx} (h0 : no4 i = no4 j) (h1 : i 1 = j 1) (h2 : i 2 = j 2) : i = j :=
  funext fun | ⟨0, _⟩ => h0 | ⟨1, _⟩ => h1 | ⟨2, _⟩ => h2
theorem idx8_ext {i j : S8x16x512.Idx} (h0 : no8 i = no8 j) (h1 : i 1 = j 1) (h2 : i 2 = j 2) : i = j :=
  funext fun | ⟨0, _⟩ => h0 | ⟨1, _⟩ => h1 | ⟨2, _⟩ => h2
theorem put4_emb (k k' : Fin 4) (x : S1x128x512.Idx) : put4 k' ((rc4 k).emb x) = (rc4 k').emb x :=
  idx4_ext (emb4_0 k' x).symm ((emb4_1 k x).trans (emb4_1 k' x).symm) ((emb4_2 k x).trans (emb4_2 k' x).symm)
theorem put8_emb (k k' : Fin 8) (x : S1x16x512.Idx) : put8 k' ((rc8 k).emb x) = (rc8 k').emb x :=
  idx8_ext (emb8_0 k' x).symm ((emb8_1 k x).trans (emb8_1 k' x).symm) ((emb8_2 k x).trans (emb8_2 k' x).symm)
theorem in4_emb (k : Fin 4) (x : S1x128x512.Idx) : in4 ((rc4 k).emb x) = x :=
  funext fun | ⟨0, _⟩ => Subsingleton.elim (α := Fin 1) _ _ | ⟨1, _⟩ => emb4_1 k x | ⟨2, _⟩ => emb4_2 k x
theorem in8_emb (k : Fin 8) (x : S1x16x512.Idx) : in8 ((rc8 k).emb x) = x :=
  funext fun | ⟨0, _⟩ => Subsingleton.elim (α := Fin 1) _ _ | ⟨1, _⟩ => emb8_1 k x | ⟨2, _⟩ => emb8_2 k x
theorem put4_self (i : S4x128x512.Idx) : put4 (no4 i) i = i := idx4_ext rfl rfl rfl
theorem put8_self (i : S8x16x512.Idx) : put8 (no8 i) i = i := idx8_ext rfl rfl rfl

/-- An element of block `k` is an index whose block number is `k`, and one placed there. -/
theorem mem4 {k : Fin 4} {i : S4x128x512.Idx} : i ∈ (rc4 k).set ↔ no4 i = k := by
  constructor
  · intro h
    rw [← Rect.map_emb_univ] at h
    obtain ⟨x, -, rfl⟩ := Finset.mem_map.mp h
    exact emb4_0 k x
  · intro h
    have : (rc4 k).emb (in4 i) = i := idx4_ext ((emb4_0 k _).trans h.symm) (emb4_1 k _) (emb4_2 k _)
    rw [← Rect.map_emb_univ]
    exact Finset.mem_map.mpr ⟨in4 i, Finset.mem_univ _, this⟩
theorem mem8 {k : Fin 8} {i : S8x16x512.Idx} : i ∈ (rc8 k).set ↔ no8 i = k := by
  constructor
  · intro h
    rw [← Rect.map_emb_univ] at h
    obtain ⟨x, -, rfl⟩ := Finset.mem_map.mp h
    exact emb8_0 k x
  · intro h
    have : (rc8 k).emb (in8 i) = i := idx8_ext ((emb8_0 k _).trans h.symm) (emb8_1 k _) (emb8_2 k _)
    rw [← Rect.map_emb_univ]
    exact Finset.mem_map.mpr ⟨in8 i, Finset.mem_univ _, this⟩
theorem exists_emb4 {k : Fin 4} {i : S4x128x512.Idx} (h : i ∈ (rc4 k).set) : ∃ x, i = (rc4 k).emb x := by
  rw [← Rect.map_emb_univ] at h
  obtain ⟨x, -, rfl⟩ := Finset.mem_map.mp h
  exact ⟨x, rfl⟩
theorem exists_emb8 {k : Fin 8} {i : S8x16x512.Idx} (h : i ∈ (rc8 k).set) : ∃ x, i = (rc8 k).emb x := by
  rw [← Rect.map_emb_univ] at h
  obtain ⟨x, -, rfl⟩ := Finset.mem_map.mp h
  exact ⟨x, rfl⟩

theorem disj4 (k k' : Fin 4) (h : k ≠ k') : Disjoint (rc4 k).set (rc4 k').set :=
  Finset.disjoint_left.mpr fun i hi hi' => h ((mem4.mp hi).symm.trans (mem4.mp hi'))
theorem disj8 (k k' : Fin 8) (h : k ≠ k') : Disjoint (rc8 k).set (rc8 k').set :=
  Finset.disjoint_left.mpr fun i hi hi' => h ((mem8.mp hi).symm.trans (mem8.mp hi'))
theorem cover4 : (Finset.univ : Finset (Fin 4)).biUnion (fun k => (rc4 k).set) = Finset.univ :=
  Finset.eq_univ_iff_forall.mpr fun i => Finset.mem_biUnion.mpr ⟨no4 i, Finset.mem_univ _, mem4.mpr rfl⟩
theorem cover8 : (Finset.univ : Finset (Fin 8)).biUnion (fun k => (rc8 k).set) = Finset.univ :=
  Finset.eq_univ_iff_forall.mpr fun i => Finset.mem_biUnion.mpr ⟨no8 i, Finset.mem_univ _, mem8.mpr rfl⟩

/-! ## What a copy leaves -/

section Copy

variable {Val : EltTy → Type}

theorem land_zb (k k' : Fin 4) (fd fs : S4x128x512.Idx → Val .bf16) (i : S4x128x512.Idx) (hi : i ∈ (rc4 k).set) :
    (sl4 zbM k).view.write Val fd ((sl4 pbM k').view.read Val fs) Finset.univ i = fs (put4 k' i) := by
  obtain ⟨x, rfl⟩ := exists_emb4 hi
  obtain ⟨j, rfl⟩ := (Shape.reshapeEquiv (s := S1x128x512) (s' := S128x512) squeezes_S1x128x512_S128x512.numel_eq).surjective x
  rw [put4_emb]
  exact View.write_emb_of_mem (v := (sl4 zbM k).view) fd _ (Finset.mem_univ j)

theorem land_pp (k k' : Fin 8) (fd fs : S8x16x512.Idx → Val .bf16) (i : S8x16x512.Idx) (hi : i ∈ (rc8 k).set) :
    (sl8 ppM k).view.write Val fd ((sl8 zaM k').view.read Val fs) Finset.univ i = fs (put8 k' i) := by
  obtain ⟨x, rfl⟩ := exists_emb8 hi
  obtain ⟨j, rfl⟩ := (Shape.reshapeEquiv (s := S1x16x512) (s' := S16x512) squeezes_S1x16x512_S16x512.numel_eq).surjective x
  rw [put8_emb]
  exact View.write_emb_of_mem (v := (sl8 ppM k).view) fd _ (Finset.mem_univ j)
theorem land_gp (k k' : Fin 8) (fd fs : S8x16x512.Idx → Val .bf16) (i : S8x16x512.Idx) (hi : i ∈ (rc8 k).set) :
    (sl8 gpM k).view.write Val fd ((sl8 gpM k').view.read Val fs) Finset.univ i = fs (put8 k' i) := by
  obtain ⟨x, rfl⟩ := exists_emb8 hi
  obtain ⟨j, rfl⟩ := (Shape.reshapeEquiv (s := S1x16x512) (s' := S16x512) squeezes_S1x16x512_S16x512.numel_eq).surjective x
  rw [put8_emb]
  exact View.write_emb_of_mem (v := (sl8 gpM k).view) fd _ (Finset.mem_univ j)
/-- A block as a buffer of one block holds it: its row-major regrouping. -/
theorem land_gz (k : Fin 4) (fd : S4x128x512.Idx → Val .bf16) (fs : S128x512.Idx → Val .bf16) (i : S4x128x512.Idx) (hi : i ∈ (rc4 k).set) :
    (sl4 gzM k).view.write Val fd (blM.view.read Val fs) Finset.univ i
      = fs ((Shape.reshapeEquiv (s := S1x128x512) (s' := S128x512) squeezes_S1x128x512_S128x512.numel_eq).symm (in4 i)) := by
  obtain ⟨x, rfl⟩ := exists_emb4 hi
  obtain ⟨j, rfl⟩ := (Shape.reshapeEquiv (s := S1x128x512) (s' := S128x512) squeezes_S1x128x512_S128x512.numel_eq).surjective x
  rw [in4_emb, Equiv.symm_apply_apply]
  exact View.write_emb_of_mem (v := (sl4 gzM k).view) fd _ (Finset.mem_univ j)

/-- The elements of a block, as the copies' operands and the vector operations name them. -/
theorem set_pb (k : Fin 4) : (sl4 pbM k).view.set = (rc4 k).set := (View.set_reshape _ _).trans (View.set_slice_whole _ _)
theorem set_zb (k : Fin 4) : (sl4 zbM k).view.set = (rc4 k).set := (View.set_reshape _ _).trans (View.set_slice_whole _ _)
theorem set_gz (k : Fin 4) : (sl4 gzM k).view.set = (rc4 k).set := (View.set_reshape _ _).trans (View.set_slice_whole _ _)
theorem set_za (k : Fin 8) : (sl8 zaM k).view.set = (rc8 k).set := (View.set_reshape _ _).trans (View.set_slice_whole _ _)
theorem set_pp (k : Fin 8) : (sl8 ppM k).view.set = (rc8 k).set := (View.set_reshape _ _).trans (View.set_slice_whole _ _)
theorem set_gp (k : Fin 8) : (sl8 gpM k).view.set = (rc8 k).set := (View.set_reshape _ _).trans (View.set_slice_whole _ _)

/-! ## What the vector operations on one block read and leave -/

theorem store_zb (k : Fin 4) (f : S4x128x512.Idx → Val .bf16) (v : S1x128x512.Idx → Val .bf16) (i : S4x128x512.Idx) (hi : i ∈ (rc4 k).set) :
    ((zbM : Memref sig .tc .vmem S4x128x512 .bf16).access (rc4 k)).write Val f v Finset.univ i = v (in4 i) := by
  obtain ⟨x, rfl⟩ := exists_emb4 hi
  rw [in4_emb]
  exact View.write_emb_of_mem (v := (zbM : Memref sig .tc .vmem S4x128x512 .bf16).access (rc4 k)) f _ (Finset.mem_univ x)
theorem store_gz (k : Fin 4) (f : S4x128x512.Idx → Val .bf16) (v : S1x128x512.Idx → Val .bf16) (i : S4x128x512.Idx) (hi : i ∈ (rc4 k).set) :
    ((gzM : Memref sig .tc .vmem S4x128x512 .bf16).access (rc4 k)).write Val f v Finset.univ i = v (in4 i) := by
  obtain ⟨x, rfl⟩ := exists_emb4 hi
  rw [in4_emb]
  exact View.write_emb_of_mem (v := (gzM : Memref sig .tc .vmem S4x128x512 .bf16).access (rc4 k)) f _ (Finset.mem_univ x)
theorem store_pp (k : Fin 8) (f : S8x16x512.Idx → Val .bf16) (v : S1x16x512.Idx → Val .bf16) (i : S8x16x512.Idx) (hi : i ∈ (rc8 k).set) :
    ((ppM : Memref sig .tc .vmem S8x16x512 .bf16).access (rc8 k)).write Val f v Finset.univ i = v (in8 i) := by
  obtain ⟨x, rfl⟩ := exists_emb8 hi
  rw [in8_emb]
  exact View.write_emb_of_mem (v := (ppM : Memref sig .tc .vmem S8x16x512 .bf16).access (rc8 k)) f _ (Finset.mem_univ x)
theorem store_gp (k : Fin 8) (f : S8x16x512.Idx → Val .bf16) (v : S1x16x512.Idx → Val .bf16) (i : S8x16x512.Idx) (hi : i ∈ (rc8 k).set) :
    ((gpM : Memref sig .tc .vmem S8x16x512 .bf16).access (rc8 k)).write Val f v Finset.univ i = v (in8 i) := by
  obtain ⟨x, rfl⟩ := exists_emb8 hi
  rw [in8_emb]
  exact View.write_emb_of_mem (v := (gpM : Memref sig .tc .vmem S8x16x512 .bf16).access (rc8 k)) f _ (Finset.mem_univ x)
theorem load_pb (k : Fin 4) (f : S4x128x512.Idx → Val .bf16) :
    (pbM : Memref sig .tc .vmem S4x128x512 .bf16).view.readAt Val (rc4 k).toLoadRect f = fun x => f ((rc4 k).emb x) := rfl
theorem load_za (k : Fin 8) (f : S8x16x512.Idx → Val .bf16) :
    (zaM : Memref sig .tc .vmem S8x16x512 .bf16).view.readAt Val (rc8 k).toLoadRect f = fun x => f ((rc8 k).emb x) := rfl

end Copy

/-! ## The payloads that only regroup -/

theorem pay3_id (x : Vec F S1x128x512 .bf16) : k0_pay3 x = x := by
  unfold k0_pay3; simp only [shapeCast_shapeCast, shapeCast_self]
theorem pay5_id (x : Vec F S1x16x512 .bf16) : k0_pay5 x = x := by
  unfold k0_pay5; simp only [shapeCast_shapeCast, shapeCast_self]
theorem pay9_apply (x : Vec F S128x512 .bf16) (i : S1x128x512.Idx) :
    k0_pay9 x i = x ((Shape.reshapeEquiv (s := S1x128x512) (s' := S128x512) squeezes_S1x128x512_S128x512.numel_eq).symm i) := by
  unfold k0_pay9 shapeCast
  rw [Shape.reshapeEquiv_symm]

/-! ## A buffer and its blocks -/

theorem split_pb (c : Dev nD) (f : Buf (Elt F) ((c : Thread nD τ).loc cc0_scratch0)) :
    (((c : Thread nD τ).loc cc0_scratch0) ↦{fullShare} f : sProp 𝕄)
      = iprop(pbP c (row c) f ∗ bigSep Finset.univ fun r : Fin 3 => pbP c (zs c r) f) := by
  rw [Ring.pointsTo_blocks (fun k => (rc4 k).set) disj4 cover4, bigSep4 c]
theorem join_pb (c : Dev nD) :
    (iprop((∃ f, pbP (F := F) c (row c) f) ∗ bigSep Finset.univ fun r : Fin 3 => iprop(∃ f, pbP (F := F) c (zs c r) f)) : sProp 𝕄)
      ⊢ iprop(∃ f, ((c : Thread nD τ).loc cc0_scratch0) ↦{fullShare} f) := by
  iintro ⟨⟨%f₀, H⟩, Hr⟩
  iapply (Ring.pointsTo_blocks_join_exists (fun k => (rc4 k).set) disj4 cover4 f₀)
  iapply (Entails.of_eq (bigSep4 c (fun k => iprop(∃ f, pbP (F := F) c k f))).symm)
  isplitl [H]
  · iexists f₀; iexact H
  · iexact Hr
theorem split_zb (c : Dev nD) (f : Buf (Elt F) ((c : Thread nD τ).loc cc0_scratch1)) :
    (((c : Thread nD τ).loc cc0_scratch1) ↦{fullShare} f : sProp 𝕄)
      = iprop(zbP c (row c) f ∗ bigSep Finset.univ fun r : Fin 3 => zbP c (zs c r) f) := by
  rw [Ring.pointsTo_blocks (fun k => (rc4 k).set) disj4 cover4, bigSep4 c]
theorem join_zb (c : Dev nD) :
    (iprop((∃ f, zbP (F := F) c (row c) f) ∗ bigSep Finset.univ fun r : Fin 3 => iprop(∃ f, zbP (F := F) c (zs c r) f)) : sProp 𝕄)
      ⊢ iprop(∃ f, ((c : Thread nD τ).loc cc0_scratch1) ↦{fullShare} f) := by
  iintro ⟨⟨%f₀, H⟩, Hr⟩
  iapply (Ring.pointsTo_blocks_join_exists (fun k => (rc4 k).set) disj4 cover4 f₀)
  iapply (Entails.of_eq (bigSep4 c (fun k => iprop(∃ f, zbP (F := F) c k f))).symm)
  isplitl [H]
  · iexists f₀; iexact H
  · iexact Hr
theorem split_gz (c : Dev nD) (f : Buf (Elt F) ((c : Thread nD τ).loc cc0_scratch6)) :
    (((c : Thread nD τ).loc cc0_scratch6) ↦{fullShare} f : sProp 𝕄)
      = iprop(gzP c (row c) f ∗ bigSep Finset.univ fun r : Fin 3 => gzP c (zs c r) f) := by
  rw [Ring.pointsTo_blocks (fun k => (rc4 k).set) disj4 cover4, bigSep4 c]
theorem join_gz (c : Dev nD) :
    (iprop((∃ f, gzP (F := F) c (row c) f) ∗ bigSep Finset.univ fun r : Fin 3 => iprop(∃ f, gzP (F := F) c (zs c r) f)) : sProp 𝕄)
      ⊢ iprop(∃ f, ((c : Thread nD τ).loc cc0_scratch6) ↦{fullShare} f) := by
  iintro ⟨⟨%f₀, H⟩, Hr⟩
  iapply (Ring.pointsTo_blocks_join_exists (fun k => (rc4 k).set) disj4 cover4 f₀)
  iapply (Entails.of_eq (bigSep4 c (fun k => iprop(∃ f, gzP (F := F) c k f))).symm)
  isplitl [H]
  · iexists f₀; iexact H
  · iexact Hr
theorem split_za (c : Dev nD) (f : Buf (Elt F) ((c : Thread nD τ).loc cc0_scratch2)) :
    (((c : Thread nD τ).loc cc0_scratch2) ↦{fullShare} f : sProp 𝕄)
      = iprop(zaP c (col c) f ∗ bigSep Finset.univ fun r : Fin 7 => zaP c (qs c r) f) := by
  rw [Ring.pointsTo_blocks (fun k => (rc8 k).set) disj8 cover8, bigSep8 c]
theorem join_za (c : Dev nD) :
    (iprop((∃ f, zaP (F := F) c (col c) f) ∗ bigSep Finset.univ fun r : Fin 7 => iprop(∃ f, zaP (F := F) c (qs c r) f)) : sProp 𝕄)
      ⊢ iprop(∃ f, ((c : Thread nD τ).loc cc0_scratch2) ↦{fullShare} f) := by
  iintro ⟨⟨%f₀, H⟩, Hr⟩
  iapply (Ring.pointsTo_blocks_join_exists (fun k => (rc8 k).set) disj8 cover8 f₀)
  iapply (Entails.of_eq (bigSep8 c (fun k => iprop(∃ f, zaP (F := F) c k f))).symm)
  isplitl [H]
  · iexists f₀; iexact H
  · iexact Hr
theorem split_pp (c : Dev nD) (f : Buf (Elt F) ((c : Thread nD τ).loc cc0_scratch3)) :
    (((c : Thread nD τ).loc cc0_scratch3) ↦{fullShare} f : sProp 𝕄)
      = iprop(ppP c (col c) f ∗ bigSep Finset.univ fun r : Fin 7 => ppP c (qs c r) f) := by
  rw [Ring.pointsTo_blocks (fun k => (rc8 k).set) disj8 cover8, bigSep8 c]
theorem join_pp (c : Dev nD) :
    (iprop((∃ f, ppP (F := F) c (col c) f) ∗ bigSep Finset.univ fun r : Fin 7 => iprop(∃ f, ppP (F := F) c (qs c r) f)) : sProp 𝕄)
      ⊢ iprop(∃ f, ((c : Thread nD τ).loc cc0_scratch3) ↦{fullShare} f) := by
  iintro ⟨⟨%f₀, H⟩, Hr⟩
  iapply (Ring.pointsTo_blocks_join_exists (fun k => (rc8 k).set) disj8 cover8 f₀)
  iapply (Entails.of_eq (bigSep8 c (fun k => iprop(∃ f, ppP (F := F) c k f))).symm)
  isplitl [H]
  · iexists f₀; iexact H
  · iexact Hr
theorem split_gp (c : Dev nD) (q : PosShare TreeShare) (f : Buf (Elt F) ((c : Thread nD τ).loc cc0_scratch4)) :
    (((c : Thread nD τ).loc cc0_scratch4) ↦{q} f : sProp 𝕄)
      = iprop(gpP c (col c) q f ∗ bigSep Finset.univ fun r : Fin 7 => gpP c (qs c r) q f) := by
  rw [Ring.pointsTo_blocks (fun k => (rc8 k).set) disj8 cover8, bigSep8 c]
theorem join_gp (c : Dev nD) :
    (iprop((∃ f, gpP (F := F) c (col c) fullShare f) ∗ bigSep Finset.univ fun r : Fin 7 => iprop(∃ f, gpP (F := F) c (qs c r) fullShare f)) : sProp 𝕄)
      ⊢ iprop(∃ f, ((c : Thread nD τ).loc cc0_scratch4) ↦{fullShare} f) := by
  iintro ⟨⟨%f₀, H⟩, Hr⟩
  iapply (Ring.pointsTo_blocks_join_exists (fun k => (rc8 k).set) disj8 cover8 f₀)
  iapply (Entails.of_eq (bigSep8 c (fun k => iprop(∃ f, gpP (F := F) c k fullShare f))).symm)
  isplitl [H]
  · iexists f₀; iexact H
  · iexact Hr

/-! ## Shares: those that go with the copies and the last -/

theorem bigSep_last {n : ℕ} (Φ : Fin (n + 1) → sProp 𝕄) :
    bigSep Finset.univ Φ = iprop(Φ (Fin.last n) ∗ bigSep Finset.univ fun r : Fin n => Φ r.castSucc) := by
  have h : (Finset.univ : Finset (Fin (n + 1)))
      = insert (Fin.last n) (Finset.univ.map ⟨Fin.castSucc, Fin.castSucc_injective n⟩) := by
    ext k; refine ⟨fun _ => ?_, fun _ => Finset.mem_univ k⟩
    refine Fin.lastCases (Finset.mem_insert_self _ _) (fun r => Finset.mem_insert_of_mem ?_) k
    exact Finset.mem_map.mpr ⟨r, Finset.mem_univ r, rfl⟩
  rw [h, bigSep_insert, bigSep_map]
  · rfl
  · simp [Fin.castSucc_ne_last]
theorem deal_gp (c : Dev nD) (k : Fin 8) (f : Buf (Elt F) ((c : Thread nD τ).loc cc0_scratch4)) :
    gpP (F := F) c k fullShare f = iprop(gpP c k (sh8 7) f ∗ bigSep Finset.univ fun r : Fin 7 => gpP c k (sh8 r.castSucc) f) :=
  (Transfers.pointsTo_deal (Finset.univ : Finset (Fin 8)) ⟨0, Finset.mem_univ _⟩ fullShare).trans (bigSep_last _)
theorem deal_bl (c : Dev nD) (f : Buf (Elt F) ((c : Thread nD τ).loc cc0_scratch5)) :
    (((c : Thread nD τ).loc cc0_scratch5) ↦{fullShare} f : sProp 𝕄) = iprop(blP c (sh4 3) f ∗ bigSep Finset.univ fun r : Fin 3 => blP c (sh4 r.castSucc) f) :=
  (Transfers.pointsTo_deal (Finset.univ : Finset (Fin 4)) ⟨0, Finset.mem_univ _⟩ fullShare).trans (bigSep_last _)
/-- The shares of one block that go with the copies, as shares of the peers' blocks. -/
theorem deal_gp_rest (c : Dev nD) (f : Buf (Elt F) ((c : Thread nD τ).loc cc0_scratch4)) :
    (bigSep Finset.univ fun r : Fin 7 => gpP (F := F) c (qs c r) fullShare f)
      = iprop((bigSep Finset.univ fun r : Fin 7 => gpP (F := F) c (qs c r) (sh8 7) f)
          ∗ bigSep Finset.univ fun r : Fin 7 => bigSep Finset.univ fun x : Fin 7 => gpP (F := F) c (qs c r) (sh8 x.castSucc) f) := by
  rw [bigSep_congr fun r _ => deal_gp c (qs c r) f, bigSep_sep']

end Cert.KernelIdeal.Proto

end
-- ==== Proof.KernelIdeal.Steps.lean ====
/-
# One step of each loop, and the loops

A device keeps, from step to step, the records of all cells and what it still owes.  A signal and a send take one
entry off what is owed; a wait leaves it.  Each loop is one such step at every peer.
-/
module

public import proofs.«01_k».proof.Proof.KernelIdeal.Blocks

@[expose] public section

noncomputable section

namespace Cert.KernelIdeal.Proto

open Cert.KernelIdeal Cert.KernelIdeal.Gen
open Idealize.ShloMosaic
open Idealize.ShloMosaic.TcCoe
open Idealize.ShloMosaic.Rounds
open Idealize.ShloMosaic.TalkSites (Pay tallyL tallyL_append tallyL_pos)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

abbrev 𝒱₀ : Variants := Variants.none

/-- The weakest precondition of a program at device `c`. -/
abbrev wpc {α : Type} (c : Dev nD) (p : P (F := F) α) (Q : α → sProp 𝕄) : sProp 𝕄 :=
  wp frame (wpE (defs₀ (F := F)) 𝒱₀ (c : Thread nD τ) none) Set.univ p Q

/-- A part of a program, and what follows it. -/
theorem seq {c : Dev nD} {β : Type} {p : P (F := F) PUnit} {k : PUnit → P (F := F) β} {A B : sProp 𝕄} {Z : β → sProp 𝕄}
    (h : A ⊢ wpc c p (fun _ => B)) : A ⊢ iprop((B -∗ wpc c (k ⟨⟩) Z) -∗ wpc c (p >>= k) Z) := by
  unfold wpc
  rw [wp_bind]
  iintro HA Hk
  iapply (wp_wand frame _ Set.univ) $$ [HA]
  · iapply h; iexact HA
  iintro %a HB
  iapply Hk
  iexact HB

/-- A loop: one step at each element. -/
theorem wp_loop {c : Dev nD} {α : Type} [DecidableEq α] {op : α → P (F := F) PUnit} {I : List α → sProp 𝕄} {Φ Ψ : α → sProp 𝕄}
    (step : ∀ a l, iprop(I (a :: l) ∗ Φ a) ⊢ wpc c (op a) (fun _ => iprop(I l ∗ Ψ a))) :
    ∀ l : List α, l.Nodup → iprop(I l ∗ bigSep l.toFinset Φ) ⊢ wpc c (loop op l) (fun _ => iprop(I [] ∗ bigSep l.toFinset Ψ))
  | [], _ => by
    show _ ⊢ wpc c (Prog.ret PUnit.unit) _
    unfold wpc
    rw [wp_ret]
    iintro ⟨HI, -⟩
    imodintro
    isplitl; · iexact HI
    rw [List.toFinset_nil, bigSep_empty]; iempintro
  | a :: l, hl => by
    have ha : a ∉ l.toFinset := fun h => (List.nodup_cons.mp hl).1 (List.mem_toFinset.mp h)
    rw [List.toFinset_cons, bigSep_insert ha, bigSep_insert ha]
    show iprop(I (a :: l) ∗ Φ a ∗ bigSep l.toFinset Φ) ⊢ wpc c (op a >>= fun _ => loop op l) (fun _ => iprop(I [] ∗ Ψ a ∗ bigSep l.toFinset Ψ))
    iintro ⟨HI, HΦ, Hr⟩
    iapply (seq (step a l)) $$ [HI HΦ]
    · isplitl [HI] <;> iassumption
    iintro ⟨HI, HΨ⟩
    iapply (wp_wand frame _ Set.univ) $$ [HI Hr]
    · iapply (wp_loop step l (List.nodup_cons.mp hl).2)
      isplitl [HI] <;> iassumption
    iintro %u ⟨HI, Hr⟩
    isplitl [HI]; · iexact HI
    isplitl [HΨ] <;> iassumption

/-- One member of a family over a finite type. -/
theorem member {α : Type} [Fintype α] [DecidableEq α] (Φ : α → sProp 𝕄) (a : α) : (bigSep Finset.univ Φ : sProp 𝕄) ⊢ Φ a :=
  bigSep_elim (Finset.mem_univ a)

section Steps

variable (m : (ℓ : Loc nD τ sig) → Buf (Elt F) ℓ) (κ : Dev nD × KI → ℕ)

/-- The records: every cell's invariant, that its round is reached, the levels. -/
def recs : sProp 𝕄 :=
  iprop((bigSep Finset.univ fun ck : Dev nD × KI => cellInv ER (sched m) (κ ck) (kcell ck))
    ∗ (bigSep Finset.univ fun ck : Dev nD × KI => reached ER (kcell ck) 0) ∗ levAts Lv lvl)
instance recs_persistent : BI.Persistent (recs m κ) := by unfold recs; infer_instance
theorem recs_inv (ck : Dev nD × KI) : recs m κ ⊢ cellInv ER (sched m) (κ ck) (kcell ck) := by
  unfold recs
  iintro ⟨H, -, -⟩
  iapply (member (fun ck : Dev nD × KI => cellInv ER (sched m) (κ ck) (kcell ck)) ck)
  iexact H
theorem recs_reached (ck : Dev nD × KI) : recs m κ ⊢ reached ER (kcell ck) 0 := by
  unfold recs
  iintro ⟨-, H, -⟩
  iapply (member (fun ck : Dev nD × KI => (reached ER (kcell ck) 0 : sProp 𝕄)) ck)
  iexact H
theorem recs_lev : recs m κ ⊢ levAts Lv lvl := by
  unfold recs
  iintro ⟨-, -, H⟩; iexact H

set_option maxRecDepth 65536 in
theorem recs_may (c : Dev nD) (s : SemLoc sig) (i : ℕ) (hi : i < 6) (l : List (Pay nD τ sig)) (h : AboveL i l) :
    recs m κ ⊢ MayWait (c : Thread nD τ) s i (tallyL l) :=
  (recs_lev m κ).trans (mayWait c s i hi l h)

/-- What device `c` still owes. -/
def owe (c : Dev nD) (l : List (Pay nD τ sig)) : sProp 𝕄 := iprop(∃ W, owes (c : Thread nD τ) (tallyL l) W)

/-- A signal. -/
theorem step_signal (c n d : Dev nD) (hn : n = d) (du : D) (l : List (Pay nD τ sig)) :
    iprop((recs m κ ∗ owe c ((barC d, 1, 1) :: l)) ∗ dutyTok ER (barC d) 0 du ∗ payBar d du)
      ⊢ wpc c (signal n) (fun _ => iprop((recs m κ ∗ owe c l) ∗ emp)) := by
  subst hn
  unfold owe
  iintro ⟨⟨#HR, ⟨%W, HO⟩⟩, Ht, Hp⟩
  unfold signal semSignalWord
  iapply (Rounds.wp_signal 𝒱₀ ER (sched m) (c : Thread nD τ) none (dst := (n : Thread nD τ)) (κ := κ (n, .inl ()))
    (d := du) (by rw [show ((n : Thread nD τ), SemLoc.reg barS) = barC n from rfl, duties_bar]; exact Finset.mem_univ _)
    ((amount_bar m n du).trans (by decide)) 1 (tallyL l) (add_comm _ _)) $$ [HO Ht Hp]
  · isplitr; · iapply (recs_inv m κ (n, .inl ())); iexact HR
    isplitl [HO]; · iexact HO
    isplitl [Ht]; · iexact Ht
    isplitl [Hp]; · rw [show (sched m).payload ((n : Thread nD τ), SemLoc.reg barS) 0 du = payBar n du from payload_bar m n du]; iexact Hp
    iapply (recs_reached m κ (n, .inl ())); iexact HR
  iintro HO
  rw [wp_ret]; imodintro
  isplitl [HO]
  · isplitr; · iexact HR
    iexists W; iexact HO
  · iempintro

/-- A send. -/
theorem step_send (c n d : Dev nD) (hn : n = d) {s : Shape} {src src' dst dst' : Memref sig .tc .vmem s .bf16} (es : src = src') (ed : dst = dst')
    {sS sS' sR sR' : DmaSem sig} (eS : sS = sS') (eR : sR = sR') (kS kR : KI) (hkS : csem kS = .dma sS') (hkR : csem kR = .dma sR')
    {h1 : src.view.WordExact} {h2 : dst.view.WordExact}
    {hsc : (dst : Memref sig (Dev.tc n : Thread nD τ).2.kind .vmem s .bf16).view.ref.isScScratch = false}
    {h3 : DmaTarget.Typed .vmem (.dma sR) (.remote (Dev.tc n : Thread nD τ) (dst : Memref sig .tc .vmem s .bf16) (.dma sS) hsc)}
    (ι N : ℕ) (l : List (Pay nD τ sig)) (q : PosShare TreeShare) (fs : Buf (Elt F) (src'.view.loc (c : Thread nD τ)))
    (hdS : Sum.inl 0 ∈ (sched m).duties (kcell (c, kS)) 0) (hdR : Sum.inl 0 ∈ (sched m).duties (kcell (d, kR)) 0)
    (haS : (sched m).amount (kcell (c, kS)) 0 (.inl 0) = N) (haR : (sched m).amount (kcell (d, kR)) 0 (.inl 0) = N)
    (hN : dst'.view.amount (.dma sR') = N)
    (hp1 : (src'.view.loc (c : Thread nD τ) ↦[src'.view.set]{q} fs) ⊢ (sched m).payload (kcell (c, kS)) 0 (.inl 0))
    (hp2 : ∀ fd : Buf (Elt F) (dst'.view.loc (d : Thread nD τ)), (dst'.view.loc (d : Thread nD τ) ↦[dst'.view.set]{fullShare} dst'.view.write (Elt F) fd (src'.view.read (Elt F) fs) Finset.univ)
      ⊢ (sched m).payload (kcell (d, kR)) 0 (.inl 0)) :
    iprop((recs m κ ∗ owe c ((kcell (d, kR), ι, N) :: l)) ∗ (dutyTok ER (kcell (c, kS)) 0 (.inl 0) ∗ dutyTok ER (kcell (d, kR)) 0 (.inl 0))
        ∗ (src'.view.loc (c : Thread nD τ) ↦[src'.view.set]{q} fs) ∗ ∃ fd, dst'.view.loc (d : Thread nD τ) ↦[dst'.view.set]{fullShare} fd)
      ⊢ wpc c (Prog.lift (.enqueueDma src (.remote (Dev.tc n : Thread nD τ) dst (.dma sS) hsc) (.dma sR) h1 h2 h3))
          (fun _ => iprop((recs m κ ∗ owe c l) ∗ cred (tallyAt (kcell (c, kS)) 0 N))) := by
  subst hn es ed eS eR
  have e1 : ((c : Thread nD τ), SemLoc.dma sS) = kcell (c, kS) := by rw [← hkS]
  have e2 : ((n : Thread nD τ), SemLoc.dma sR) = kcell (n, kR) := by rw [← hkR]
  unfold owe
  iintro ⟨⟨#HR, ⟨%W, HO⟩⟩, ⟨Ht1, Ht2⟩, Hs, ⟨%fd, Hd⟩⟩
  unfold Prog.lift
  rw [← e1, ← e2]
  iapply (Rounds.wp_send_pointsTo 𝒱₀ ER (sched m) (c : Thread nD τ) none (κ₁ := κ (c, kS)) (κ₂ := κ (n, kR))
    (r₁ := 0) (r₂ := 0) (d₁ := .inl 0) (d₂ := .inl 0) (fd := fd) (by rw [e1]; exact hdS) (by rw [e2]; exact hdR)
    ι 0 N hN (by rw [e1]; exact haS) (by rw [e2]; exact haR) (tallyL l) (add_comm _ _) (W := W)
    (by rw [e1]; exact hp1) (by rw [e2]; exact hp2 fd)) $$ [HO Ht1 Ht2 Hs Hd]
  · isplitr; · rw [e1]; iapply (recs_inv m κ (c, kS)); iexact HR
    isplitr; · rw [e2]; iapply (recs_inv m κ (n, kR)); iexact HR
    isplitl [Hs]; · iexact Hs
    isplitl [Hd]; · iexact Hd
    isplitl [HO]; · iexact HO
    isplitl [Ht1]; · iexact Ht1
    isplitr; · rw [e1]; iapply (recs_reached m κ (c, kS)); iexact HR
    isplitl [Ht2]; · iexact Ht2
    rw [e2]; iapply (recs_reached m κ (n, kR)); iexact HR
  iintro ⟨Hc, HO⟩
  rw [wp_ret]; imodintro
  isplitl [HO]
  · isplitr; · iexact HR
    iexists W; iexact HO
  · iexact Hc

/-- A wait for a copy, departed or landed: the cell closes and its payload comes. -/
theorem step_wait (c : Dev nD) {s s' : Shape} {src : Memref sig .tc .vmem s' .bf16} {dst : Memref sig .tc .vmem s .bf16}
    {sem sem' : DmaSem sig} (es : sem = sem') (k : KI) (hk : csem k = .dma sem')
    {h1 : src.view.WordExact} {h2 : dst.view.WordExact} (ι N : ℕ) (hi : ι < 6) (l : List (Pay nD τ sig)) (hl : AboveL ι l)
    (hN : dst.view.dmaCredit = N) (hexp : (sched m).expect (kcell (c, k)) 0 = N) (Pl : sProp 𝕄)
    (hrest : bigSep ((sched m).duties (kcell (c, k)) 0 \ ∅) (fun d => (sched m).payload (kcell (c, k)) 0 d) = Pl) :
    iprop((recs m κ ∗ owe c l) ∗ cred (tallyAt (kcell (c, k)) ι N) ∗ atPos ER (kcell (c, k)) 0 ∅ 0)
      ⊢ wpc c (Prog.lift (.waitDma2 sem src dst h1 h2))
          (fun _ => iprop((recs m κ ∗ owe c l) ∗ semVal (kcell (c, k)) 0 ∗ Pl)) := by
  subst es
  have e1 : ((c : Thread nD τ), SemLoc.dma sem) = kcell (c, k) := by rw [← hk]
  unfold owe
  iintro ⟨⟨#HR, ⟨%W, HO⟩⟩, Hc, Hat⟩
  unfold Prog.lift
  iapply (Rounds.wp_wait_rest_token 𝒱₀ ER (sched m) (c : Thread nD τ) none (κ := κ (c, k))
      (wpE_waitDma2_eq 𝒱₀ (c : Thread nD τ) none Set.univ) (Set.mem_univ _) ι (O := tallyL l) (W := W) (R := 0) (m := 0) (T := ∅)
      (by rw [Nat.zero_add, e1, hexp, hN])) $$ [Hc HO Hat]
  · rw [e1, hN]
    isplitr; · iapply (recs_inv m κ (c, k)); iexact HR
    isplitl [Hc]; · iexact Hc
    isplitl [HO]; · iexact HO
    isplitr
    · iapply (recs_may m κ c (.dma sem) ι hi l hl)
      iexact HR
    iexact Hat
  rw [e1, hrest]
  iintro ⟨HO, Hat, -, Hp⟩
  rw [wp_ret]
  imod (Rounds.cell_close ER (sched m) (Set.mem_univ (κ (c, k))) (fun h => h) (R := 0 + 1) (duties_later m (kcell (c, k)))) $$ [Hat] with Hz
  · isplitr; · iapply (recs_inv m κ (c, k)); iexact HR
    iexact Hat
  imodintro
  isplitl [HO]
  · isplitr; · iexact HR
    iexists _; iexact HO
  isplitl [Hz] <;> iassumption

/-- The wait on the barrier. -/
theorem step_bar (c : Dev nD) :
    iprop((recs m κ ∗ owe c (owed1 c)) ∗ cred (tallyAt (barC c) 1 10) ∗ atPos ER (barC c) 0 ∅ 0)
      ⊢ wpc c (waitBar (F := F)) (fun _ => iprop((recs m κ ∗ owe c (owed1 c)) ∗ semVal (barC c) 0
          ∗ (bigSep Finset.univ fun r : Fin 3 => payBar (F := F) c (.inl r)) ∗ bigSep Finset.univ fun r : Fin 7 => payBar (F := F) c (.inr r))) := by
  unfold owe
  iintro ⟨⟨#HR, ⟨%W, HO⟩⟩, Hc, Hat⟩
  unfold waitBar semWaitWord
  iapply (Rounds.wp_wait_rest_token 𝒱₀ ER (sched m) (c : Thread nD τ) none (κ := κ (c, .inl ()))
      (wpE_semWait_eq 𝒱₀ (c : Thread nD τ) none Set.univ) (Set.mem_univ _) 1 (O := tallyL (owed1 c)) (W := W) (R := 0) (m := 0) (T := ∅)
      (by rw [show ((c : Thread nD τ), SemLoc.reg barS) = barC c from rfl, expect_bar]; decide)) $$ [Hc HO Hat]
  · isplitr; · iapply (recs_inv m κ (c, .inl ())); iexact HR
    isplitl [Hc]; · iexact Hc
    isplitl [HO]; · iexact HO
    isplitr
    · iapply (recs_may m κ c (.reg barS) 1 (by decide) _ (above1 c 1 (by decide)))
      iexact HR
    iexact Hat
  rw [show ((c : Thread nD τ), SemLoc.reg barS) = barC c from rfl, rest_bar]
  iintro ⟨HO, Hat, -, Hp⟩
  rw [wp_ret]
  imod (Rounds.cell_close ER (sched m) (Set.mem_univ (κ (c, .inl ()))) (fun h => h) (R := 0 + 1) (duties_later m (barC c))) $$ [Hat] with Hz
  · isplitr; · iapply (recs_inv m κ (c, .inl ())); iexact HR
    iexact Hat
  imodintro
  isplitl [HO]
  · isplitr; · iexact HR
    iexists _; iexact HO
  isplitl [Hz] <;> iassumption

/-- The cells of the device's own row and column, which nobody pays. -/
theorem close_A (c : Dev nD) (j : Fin 4) : iprop(recs m κ ∗ atPos ER (cA c j (row c)) 0 ∅ 0) ⊢ iprop(|={Set.univ}=> semVal (cA c j (row c)) 0) := by
  iintro ⟨#HR, Hat⟩
  iapply (Rounds.cell_close ER (sched m) (Set.mem_univ (κ (c, .inr (.inl (j, row c))))) (fun h => h) (R := 0) (duties_ownA m c j))
  isplitr; · iapply (recs_inv m κ (c, .inr (.inl (j, row c)))); iexact HR
  iexact Hat
theorem close_B (c : Dev nD) (j : Fin 4) : iprop(recs m κ ∗ atPos ER (cB c j (col c)) 0 ∅ 0) ⊢ iprop(|={Set.univ}=> semVal (cB c j (col c)) 0) := by
  iintro ⟨#HR, Hat⟩
  iapply (Rounds.cell_close ER (sched m) (Set.mem_univ (κ (c, .inr (.inr (j, col c))))) (fun h => h) (R := 0) (duties_ownB m c j))
  isplitr; · iapply (recs_inv m κ (c, .inr (.inr (j, col c)))); iexact HR
  iexact Hat

end Steps

end Cert.KernelIdeal.Proto

end
-- ==== Proof.KernelIdeal.Comps.lean ====
/-
# The computations between the loops

What each of the eight computations reads and what it leaves.
-/
module

public import proofs.«01_k».proof.Proof.KernelIdeal.Steps

@[expose] public section

noncomputable section

namespace Cert.KernelIdeal.Proto

open Cert.KernelIdeal Cert.KernelIdeal.Gen
open Idealize.ShloMosaic
open Idealize.ShloMosaic.TcCoe
open Idealize.ShloMosaic.Rounds
open Idealize.ShloMosaic.TalkSites (Pay tallyL tallyL_append tallyL_pos)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## Blocks at equal offsets -/

theorem emb_congr {s : Shape} {o o' size : Fin s.rank → Nat} (h : o = o') (hi : ∀ a, o a + size a ≤ s.size a)
    (hi' : ∀ a, o' a + size a ≤ s.size a) (x : (Rect.unit (s := s) o size hi).shape.Idx) :
    (Rect.unit (s := s) o size hi).emb x = (Rect.unit (s := s) o' size hi').emb x := by
  subst h; rfl
theorem write_congr {s : Shape} (b : Memref sig .tc .vmem s .bf16) {o o' size : Fin s.rank → Nat} (h : o = o') (hi : ∀ a, o a + size a ≤ s.size a)
    (hi' : ∀ a, o' a + size a ≤ s.size a) (f : b.view.ref.ty.Contents (Elt F)) (v : (Rect.unit (s := s) o size hi).shape.Idx → Elt F .bf16) :
    (b.access (Rect.unit (s := s) o size hi)).write (Elt F) f v Finset.univ
      = (b.access (Rect.unit (s := s) o' size hi')).write (Elt F) f v Finset.univ := by
  subst h; rfl

/-! ## Whole buffers -/

theorem rd_zb (f : S4x128x512.Idx → Elt F .bf16) :
    (zbM : Memref sig .tc .vmem S4x128x512 .bf16).view.readAt (Elt F) all4.toLoadRect f = f :=
  Memref.readAt_unit_zero (Elt F) cc0_scratch1 hz3 _ f
theorem rd_gz (f : S4x128x512.Idx → Elt F .bf16) :
    (gzM : Memref sig .tc .vmem S4x128x512 .bf16).view.readAt (Elt F) all4.toLoadRect f = f :=
  Memref.readAt_unit_zero (Elt F) cc0_scratch6 hz3 _ f
theorem rd_pp (f : S8x16x512.Idx → Elt F .bf16) :
    (ppM : Memref sig .tc .vmem S8x16x512 .bf16).view.readAt (Elt F) all8.toLoadRect f = f :=
  Memref.readAt_unit_zero (Elt F) cc0_scratch3 hz3 _ f
theorem rd_gp (f : S8x16x512.Idx → Elt F .bf16) :
    (gpM : Memref sig .tc .vmem S8x16x512 .bf16).view.readAt (Elt F) all8.toLoadRect f = f :=
  Memref.readAt_unit_zero (Elt F) cc0_scratch4 hz3 _ f
theorem rd_bl (f : S128x512.Idx → Elt F .bf16) :
    (blM : Memref sig .tc .vmem S128x512 .bf16).view.readAt (Elt F) allB.toLoadRect f = f :=
  Memref.readAt_unit_zero (Elt F) cc0_scratch5 hz2 _ f
theorem rd_dy (f : S512x2048.Idx → Elt F .bf16) :
    (dyM : Memref sig .tc .vmem S512x2048 .bf16).view.readAt (Elt F) allI.toLoadRect f = f :=
  Memref.readAt_unit_zero (Elt F) cc0_stg0_0 hz2 _ f
theorem rd_w (f : S512x2048.Idx → Elt F .bf16) :
    (wM : Memref sig .tc .vmem S512x2048 .bf16).view.readAt (Elt F) allI.toLoadRect f = f :=
  Memref.readAt_unit_zero (Elt F) cc0_stg1_0 hz2 _ f
theorem wr_pb (f w : S4x128x512.Idx → Elt F .bf16) :
    ((pbM : Memref sig .tc .vmem S4x128x512 .bf16).access all4).write (Elt F) f w Finset.univ = w :=
  Memref.write_access_unit_zero_univ (Elt F) cc0_scratch0 hz3 _ f w
theorem wr_za (f w : S8x16x512.Idx → Elt F .bf16) :
    ((zaM : Memref sig .tc .vmem S8x16x512 .bf16).access all8).write (Elt F) f w Finset.univ = w :=
  Memref.write_access_unit_zero_univ (Elt F) cc0_scratch2 hz3 _ f w
theorem wr_bl (f w : S128x512.Idx → Elt F .bf16) :
    ((blM : Memref sig .tc .vmem S128x512 .bf16).access allB).write (Elt F) f w Finset.univ = w :=
  Memref.write_access_unit_zero_univ (Elt F) cc0_scratch5 hz2 _ f w
theorem wr_out (f w : S512x512.Idx → Elt F .f32) :
    ((outM : Memref sig .tc .vmem S512x512 .f32).access allO).write (Elt F) f w Finset.univ = w :=
  Memref.write_access_unit_zero_univ (Elt F) cc0_stg2_0 hz2 _ f w

section Comps

variable (m : (ℓ : Loc nD τ sig) → Buf (Elt F) ℓ) (c : Dev nD)

theorem comp1_spec :
    iprop((((c : Thread nD τ).loc cc0_stg0_0) ↦{fullShare} X0 m c) ∗ (((c : Thread nD τ).loc cc0_stg1_0) ↦{fullShare} X1 m c)
        ∗ ∃ f, ((c : Thread nD τ).loc cc0_scratch0) ↦{fullShare} f)
      ⊢ wpc c (comp1 (F := F)) (fun _ => iprop((((c : Thread nD τ).loc cc0_stg0_0) ↦{fullShare} X0 m c) ∗ (((c : Thread nD τ).loc cc0_stg1_0) ↦{fullShare} X1 m c)
        ∗ ((c : Thread nD τ).loc cc0_scratch0) ↦{fullShare} PB m c)) := by
  iintro ⟨Hx, Hy, ⟨%f, Hp⟩⟩
  unfold comp1
  simp only [Prog.lift, Prog.bind_op, Prog.bind_ret]
  iapply (wp_load 𝒱₀ (c : Thread nD τ) none Set.univ (m := dyM) (Finset.subset_univ _)) $$ Hx; iintro Hx
  rw [rd_dy]
  iapply (wp_load 𝒱₀ (c : Thread nD τ) none Set.univ (m := wM) (Finset.subset_univ _)) $$ Hy; iintro Hy
  rw [rd_w]
  iapply (wp_load 𝒱₀ (c : Thread nD τ) none Set.univ (m := pbM) (Finset.subset_univ _)) $$ Hp; iintro Hp
  iapply (wp_store 𝒱₀ (c : Thread nD τ) none Set.univ (m := pbM) (r := all4) (Mk := Finset.univ) (Finset.subset_univ _)) $$ Hp; iintro Hp
  rw [wr_pb, wp_ret]; imodintro
  isplitl [Hx]; · iexact Hx
  isplitl [Hy]; · iexact Hy
  iexact Hp

theorem comp3_spec :
    iprop((((c : Thread nD τ).loc cc0_scratch1) ↦{fullShare} ZB m c) ∗ ∃ f, ((c : Thread nD τ).loc cc0_scratch2) ↦{fullShare} f)
      ⊢ wpc c (comp3 (F := F)) (fun _ => iprop((((c : Thread nD τ).loc cc0_scratch1) ↦{fullShare} ZB m c) ∗ ((c : Thread nD τ).loc cc0_scratch2) ↦{fullShare} ZA m c)) := by
  iintro ⟨Hx, ⟨%f, Hp⟩⟩
  unfold comp3
  simp only [Prog.lift, Prog.bind_op, Prog.bind_ret]
  iapply (wp_load 𝒱₀ (c : Thread nD τ) none Set.univ (m := zbM) (Finset.subset_univ _)) $$ Hx; iintro Hx
  rw [rd_zb]
  iapply (wp_load 𝒱₀ (c : Thread nD τ) none Set.univ (m := zaM) (Finset.subset_univ _)) $$ Hp; iintro Hp
  iapply (wp_store 𝒱₀ (c : Thread nD τ) none Set.univ (m := zaM) (r := all8) (Mk := Finset.univ) (Finset.subset_univ _)) $$ Hp; iintro Hp
  rw [wr_za, wp_ret]; imodintro
  isplitl [Hx]; · iexact Hx
  iexact Hp

theorem comp6_spec (q : PosShare TreeShare) :
    iprop((((c : Thread nD τ).loc cc0_scratch4) ↦{q} GP m c) ∗ ∃ f, ((c : Thread nD τ).loc cc0_scratch5) ↦{fullShare} f)
      ⊢ wpc c (comp6 (F := F)) (fun _ => iprop((((c : Thread nD τ).loc cc0_scratch4) ↦{q} GP m c) ∗ ((c : Thread nD τ).loc cc0_scratch5) ↦{fullShare} BL m c)) := by
  iintro ⟨Hx, ⟨%f, Hp⟩⟩
  unfold comp6
  simp only [Prog.lift, Prog.bind_op, Prog.bind_ret]
  iapply (wp_load 𝒱₀ (c : Thread nD τ) none Set.univ (m := gpM) (Finset.subset_univ _)) $$ Hx; iintro Hx
  rw [rd_gp]
  iapply (wp_load 𝒱₀ (c : Thread nD τ) none Set.univ (m := blM) (Finset.subset_univ _)) $$ Hp; iintro Hp
  iapply (wp_store 𝒱₀ (c : Thread nD τ) none Set.univ (m := blM) (r := allB) (Mk := Finset.univ) (Finset.subset_univ _)) $$ Hp; iintro Hp
  rw [wr_bl, wp_ret]; imodintro
  isplitl [Hx]; · iexact Hx
  iexact Hp

theorem comp8_spec :
    iprop((((c : Thread nD τ).loc cc0_scratch6) ↦{fullShare} GZ m c) ∗ ∃ f, ((c : Thread nD τ).loc cc0_stg2_0) ↦{fullShare} f)
      ⊢ wpc c (comp8 (F := F)) (fun _ => iprop((((c : Thread nD τ).loc cc0_scratch6) ↦{fullShare} GZ m c) ∗ ((c : Thread nD τ).loc cc0_stg2_0) ↦{fullShare} OUT m c)) := by
  iintro ⟨Hx, ⟨%f, Hp⟩⟩
  unfold comp8
  simp only [Prog.lift, Prog.bind_op, Prog.bind_ret]
  iapply (wp_load 𝒱₀ (c : Thread nD τ) none Set.univ (m := gzM) (Finset.subset_univ _)) $$ Hx; iintro Hx
  rw [rd_gz]
  iapply (wp_load 𝒱₀ (c : Thread nD τ) none Set.univ (m := outM) (Finset.subset_univ _)) $$ Hp; iintro Hp
  iapply (wp_store 𝒱₀ (c : Thread nD τ) none Set.univ (m := outM) (r := allO) (Mk := Finset.univ) (Finset.subset_univ _)) $$ Hp; iintro Hp
  rw [wr_out, wp_ret]; imodintro
  isplitl [Hx]; · iexact Hx
  iexact Hp

theorem ld_pb : (pbM : Memref sig .tc .vmem S4x128x512 .bf16).view.setOn (blk4 c).toLoadRect.set ⊆ (rc4 (row c)).set := by
  rw [blk4_eq]
  exact fun i hi => by
    obtain ⟨x, hx, rfl⟩ := Finset.mem_map.mp hi
    exact hx
theorem st_pb : ((pbM : Memref sig .tc .vmem S4x128x512 .bf16).access (blk4 c)).setOn Finset.univ ⊆ (rc4 (row c)).set := by
  rw [blk4_eq]
  exact (View.set_slice_whole _ _).le
theorem ld_zb : (zbM : Memref sig .tc .vmem S4x128x512 .bf16).view.setOn (blk4 c).toLoadRect.set ⊆ (rc4 (row c)).set := by
  rw [blk4_eq]
  exact fun i hi => by
    obtain ⟨x, hx, rfl⟩ := Finset.mem_map.mp hi
    exact hx
theorem st_zb : ((zbM : Memref sig .tc .vmem S4x128x512 .bf16).access (blk4 c)).setOn Finset.univ ⊆ (rc4 (row c)).set := by
  rw [blk4_eq]
  exact (View.set_slice_whole _ _).le
theorem ld_gz : (gzM : Memref sig .tc .vmem S4x128x512 .bf16).view.setOn (blk4 c).toLoadRect.set ⊆ (rc4 (row c)).set := by
  rw [blk4_eq]
  exact fun i hi => by
    obtain ⟨x, hx, rfl⟩ := Finset.mem_map.mp hi
    exact hx
theorem st_gz : ((gzM : Memref sig .tc .vmem S4x128x512 .bf16).access (blk4 c)).setOn Finset.univ ⊆ (rc4 (row c)).set := by
  rw [blk4_eq]
  exact (View.set_slice_whole _ _).le
theorem ld_za : (zaM : Memref sig .tc .vmem S8x16x512 .bf16).view.setOn (blk8 c).toLoadRect.set ⊆ (rc8 (col c)).set := by
  rw [blk8_eq]
  exact fun i hi => by
    obtain ⟨x, hx, rfl⟩ := Finset.mem_map.mp hi
    exact hx
theorem st_za : ((zaM : Memref sig .tc .vmem S8x16x512 .bf16).access (blk8 c)).setOn Finset.univ ⊆ (rc8 (col c)).set := by
  rw [blk8_eq]
  exact (View.set_slice_whole _ _).le
theorem ld_pp : (ppM : Memref sig .tc .vmem S8x16x512 .bf16).view.setOn (blk8 c).toLoadRect.set ⊆ (rc8 (col c)).set := by
  rw [blk8_eq]
  exact fun i hi => by
    obtain ⟨x, hx, rfl⟩ := Finset.mem_map.mp hi
    exact hx
theorem st_pp : ((ppM : Memref sig .tc .vmem S8x16x512 .bf16).access (blk8 c)).setOn Finset.univ ⊆ (rc8 (col c)).set := by
  rw [blk8_eq]
  exact (View.set_slice_whole _ _).le
theorem ld_gp : (gpM : Memref sig .tc .vmem S8x16x512 .bf16).view.setOn (blk8 c).toLoadRect.set ⊆ (rc8 (col c)).set := by
  rw [blk8_eq]
  exact fun i hi => by
    obtain ⟨x, hx, rfl⟩ := Finset.mem_map.mp hi
    exact hx
theorem st_gp : ((gpM : Memref sig .tc .vmem S8x16x512 .bf16).access (blk8 c)).setOn Finset.univ ⊆ (rc8 (col c)).set := by
  rw [blk8_eq]
  exact (View.set_slice_whole _ _).le

theorem val2 (f : S4x128x512.Idx → Elt F .bf16) (i : S4x128x512.Idx) (hi : i ∈ (rc4 (row c)).set) :
    ((zbM : Memref sig .tc .vmem S4x128x512 .bf16).access (blk4 c)).write (Elt F) f
      (k0_pay3 ((pbM : Memref sig .tc .vmem S4x128x512 .bf16).view.readAt (Elt F) (blk4 c).toLoadRect (PB m c))) Finset.univ i = ZB m c i := by
  rw [write_congr zbM (off5_eq c) (k0_off5_inb c) (inb4 (row c)), pay3_id]
  refine (store_zb (row c) f _ i hi).trans ?_
  show PB m c ((blk4 c).emb (in4 i)) = _
  rw [emb_congr (off5_eq c) _ (inb4 (row c))]
  obtain ⟨x, rfl⟩ := exists_emb4 hi
  unfold ZB
  rw [in4_emb, put4_emb, emb4_0, at2_row_col]
theorem val4 (f : S8x16x512.Idx → Elt F .bf16) (i : S8x16x512.Idx) (hi : i ∈ (rc8 (col c)).set) :
    ((ppM : Memref sig .tc .vmem S8x16x512 .bf16).access (blk8 c)).write (Elt F) f
      (k0_pay5 ((zaM : Memref sig .tc .vmem S8x16x512 .bf16).view.readAt (Elt F) (blk8 c).toLoadRect (ZA m c))) Finset.univ i = PP m c i := by
  rw [write_congr ppM (off10_eq c) (k0_off10_inb c) (inb8 (col c)), pay5_id]
  refine (store_pp (col c) f _ i hi).trans ?_
  show ZA m c ((blk8 c).emb (in8 i)) = _
  rw [emb_congr (off10_eq c) _ (inb8 (col c))]
  obtain ⟨x, rfl⟩ := exists_emb8 hi
  unfold PP
  rw [in8_emb, put8_emb, emb8_0, at2_row_col]
theorem val5 (f : S8x16x512.Idx → Elt F .bf16) (i : S8x16x512.Idx) (hi : i ∈ (rc8 (col c)).set) :
    ((gpM : Memref sig .tc .vmem S8x16x512 .bf16).access (blk8 c)).write (Elt F) f (k0_pay7 (PP m c)) Finset.univ i = GP m c i := by
  rw [write_congr gpM (off10_eq c) (k0_off10_inb c) (inb8 (col c))]
  refine (store_gp (col c) f _ i hi).trans ?_
  unfold GP G16
  rw [mem8.mp hi, at2_row_col]
theorem val7 (f : S4x128x512.Idx → Elt F .bf16) (i : S4x128x512.Idx) (hi : i ∈ (rc4 (row c)).set) :
    ((gzM : Memref sig .tc .vmem S4x128x512 .bf16).access (blk4 c)).write (Elt F) f (k0_pay9 (BL m c)) Finset.univ i = GZ m c i := by
  rw [write_congr gzM (off5_eq c) (k0_off5_inb c) (inb4 (row c))]
  refine (store_gz (row c) f _ i hi).trans ?_
  unfold GZ
  rw [mem4.mp hi, at2_row_col]

theorem comp2_spec :
    iprop(pbP c (row c) (PB m c) ∗ ∃ f, zbP (F := F) c (row c) f)
      ⊢ wpc c (comp2 (F := F) c) (fun _ => iprop(pbP c (row c) (PB m c) ∗ zbP c (row c) (ZB m c))) := by
  iintro ⟨Hx, ⟨%f, Hp⟩⟩
  unfold comp2
  simp only [Prog.lift, Prog.bind_op, Prog.bind_ret]
  iapply (wp_load 𝒱₀ (c : Thread nD τ) none Set.univ (m := pbM) (ld_pb c)) $$ Hx; iintro Hx
  iapply (wp_load 𝒱₀ (c : Thread nD τ) none Set.univ (m := zbM) (ld_zb c)) $$ Hp; iintro Hp
  iapply (wp_store 𝒱₀ (c : Thread nD τ) none Set.univ (m := zbM) (r := blk4 c) (Mk := Finset.univ) (st_zb c)) $$ Hp; iintro Hp
  rw [wp_ret]; imodintro
  isplitl [Hx]; · iexact Hx
  iapply (Entails.of_eq (pointsTo_congr (ℓ := (c : Thread nD τ).loc cc0_scratch1) fun i hi => val2 m c f i hi))
  iexact Hp

theorem comp4_spec :
    iprop(zaP c (col c) (ZA m c) ∗ ∃ f, ppP (F := F) c (col c) f)
      ⊢ wpc c (comp4 (F := F) c) (fun _ => iprop(zaP c (col c) (ZA m c) ∗ ppP c (col c) (PP m c))) := by
  iintro ⟨Hx, ⟨%f, Hp⟩⟩
  unfold comp4
  simp only [Prog.lift, Prog.bind_op, Prog.bind_ret]
  iapply (wp_load 𝒱₀ (c : Thread nD τ) none Set.univ (m := zaM) (ld_za c)) $$ Hx; iintro Hx
  iapply (wp_load 𝒱₀ (c : Thread nD τ) none Set.univ (m := ppM) (ld_pp c)) $$ Hp; iintro Hp
  iapply (wp_store 𝒱₀ (c : Thread nD τ) none Set.univ (m := ppM) (r := blk8 c) (Mk := Finset.univ) (st_pp c)) $$ Hp; iintro Hp
  rw [wp_ret]; imodintro
  isplitl [Hx]; · iexact Hx
  iapply (Entails.of_eq (pointsTo_congr (ℓ := (c : Thread nD τ).loc cc0_scratch3) fun i hi => val4 m c f i hi))
  iexact Hp

theorem comp5_spec :
    iprop((((c : Thread nD τ).loc cc0_scratch3) ↦{fullShare} PP m c) ∗ (∃ f, ((c : Thread nD τ).loc cc0_stg2_0) ↦{fullShare} f)
        ∗ ∃ f, gpP (F := F) c (col c) fullShare f)
      ⊢ wpc c (comp5 (F := F) c) (fun _ => iprop((((c : Thread nD τ).loc cc0_scratch3) ↦{fullShare} PP m c)
          ∗ (∃ f, ((c : Thread nD τ).loc cc0_stg2_0) ↦{fullShare} f) ∗ gpP c (col c) fullShare (GP m c))) := by
  iintro ⟨Hx, ⟨%g, Ho⟩, ⟨%f, Hp⟩⟩
  unfold comp5
  simp only [Prog.lift, Prog.bind_op, Prog.bind_ret]
  iapply (wp_load 𝒱₀ (c : Thread nD τ) none Set.univ (m := ppM) (Finset.subset_univ _)) $$ Hx; iintro Hx
  rw [rd_pp]
  iapply (wp_load 𝒱₀ (c : Thread nD τ) none Set.univ (m := outM) (Finset.subset_univ _)) $$ Ho; iintro Ho
  iapply (wp_store 𝒱₀ (c : Thread nD τ) none Set.univ (m := outM) (r := rowsO c) (Mk := Finset.univ) (Finset.subset_univ _)) $$ Ho; iintro Ho
  iapply (wp_load 𝒱₀ (c : Thread nD τ) none Set.univ (m := gpM) (ld_gp c)) $$ Hp; iintro Hp
  iapply (wp_store 𝒱₀ (c : Thread nD τ) none Set.univ (m := gpM) (r := blk8 c) (Mk := Finset.univ) (st_gp c)) $$ Hp; iintro Hp
  rw [wp_ret]; imodintro
  isplitl [Hx]; · iexact Hx
  isplitl [Ho]; · iexists _; iexact Ho
  iapply (Entails.of_eq (pointsTo_congr (ℓ := (c : Thread nD τ).loc cc0_scratch4) fun i hi => val5 m c f i hi))
  iexact Hp

theorem comp7_spec (q : PosShare TreeShare) :
    iprop(blP c q (BL m c) ∗ ∃ f, gzP (F := F) c (row c) f)
      ⊢ wpc c (comp7 (F := F) c) (fun _ => iprop(blP c q (BL m c) ∗ gzP c (row c) (GZ m c))) := by
  iintro ⟨Hx, ⟨%f, Hp⟩⟩
  unfold comp7
  simp only [Prog.lift, Prog.bind_op, Prog.bind_ret]
  iapply (wp_load 𝒱₀ (c : Thread nD τ) none Set.univ (m := blM) (Finset.subset_univ _)) $$ Hx; iintro Hx
  rw [rd_bl]
  iapply (wp_load 𝒱₀ (c : Thread nD τ) none Set.univ (m := gzM) (ld_gz c)) $$ Hp; iintro Hp
  iapply (wp_store 𝒱₀ (c : Thread nD τ) none Set.univ (m := gzM) (r := blk4 c) (Mk := Finset.univ) (st_gz c)) $$ Hp; iintro Hp
  rw [wp_ret]; imodintro
  isplitl [Hx]; · iexact Hx
  iapply (Entails.of_eq (pointsTo_congr (ℓ := (c : Thread nD τ).loc cc0_scratch6) fun i hi => val7 m c f i hi))
  iexact Hp

end Comps

end Cert.KernelIdeal.Proto

end
-- ==== Proof.KernelIdeal.Loops.lean ====
/-
# The fourteen loops

Each loop's resources in and out: two loops of signals, four of sends, four of landing waits, four of departure waits.
-/
module

public import proofs.«01_k».proof.Proof.KernelIdeal.Steps

@[expose] public section

noncomputable section

namespace Cert.KernelIdeal.Proto

open Cert.KernelIdeal Cert.KernelIdeal.Gen
open Idealize.ShloMosaic
open Idealize.ShloMosaic.TcCoe
open Idealize.ShloMosaic.Rounds
open Idealize.ShloMosaic.TalkSites (Pay tallyL tallyL_append tallyL_pos)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

theorem toFinset3 : peers3.toFinset = Finset.univ := by decide
theorem toFinset7 : peers7.toFinset = Finset.univ := by decide

theorem wp_loop3 {c : Dev nD} {op : Fin 3 → P (F := F) PUnit} {I : List (Fin 3) → sProp 𝕄} {Φ Ψ : Fin 3 → sProp 𝕄}
    (step : ∀ a l, iprop(I (a :: l) ∗ Φ a) ⊢ wpc c (op a) (fun _ => iprop(I l ∗ Ψ a))) :
    iprop(I peers3 ∗ bigSep Finset.univ Φ) ⊢ wpc c (loop op peers3) (fun _ => iprop(I [] ∗ bigSep Finset.univ Ψ)) := by
  have h := wp_loop step peers3 (by decide)
  rw [toFinset3] at h; exact h
theorem wp_loop7 {c : Dev nD} {op : Fin 7 → P (F := F) PUnit} {I : List (Fin 7) → sProp 𝕄} {Φ Ψ : Fin 7 → sProp 𝕄}
    (step : ∀ a l, iprop(I (a :: l) ∗ Φ a) ⊢ wpc c (op a) (fun _ => iprop(I l ∗ Ψ a))) :
    iprop(I peers7 ∗ bigSep Finset.univ Φ) ⊢ wpc c (loop op peers7) (fun _ => iprop(I [] ∗ bigSep Finset.univ Ψ)) := by
  have h := wp_loop step peers7 (by decide)
  rw [toFinset7] at h; exact h

/-! ## A block, as the copies' operands name it -/

theorem pts_pb (c : Dev nD) (k : Fin 4) (q : PosShare TreeShare) (f : Buf (Elt F) ((c : Thread nD τ).loc cc0_scratch0)) :
    ((sl4 pbM k).view.loc (c : Thread nD τ) ↦[(sl4 pbM k).view.set]{q} f : sProp 𝕄) = (((c : Thread nD τ).loc cc0_scratch0) ↦[(rc4 k).set]{q} f) :=
  congrArg (fun S : Finset (Idx ((c : Thread nD τ).loc cc0_scratch0)) => (((c : Thread nD τ).loc cc0_scratch0) ↦[S]{q} f : sProp 𝕄)) (set_pb k)
theorem pts_zb (c : Dev nD) (k : Fin 4) (q : PosShare TreeShare) (f : Buf (Elt F) ((c : Thread nD τ).loc cc0_scratch1)) :
    ((sl4 zbM k).view.loc (c : Thread nD τ) ↦[(sl4 zbM k).view.set]{q} f : sProp 𝕄) = (((c : Thread nD τ).loc cc0_scratch1) ↦[(rc4 k).set]{q} f) :=
  congrArg (fun S : Finset (Idx ((c : Thread nD τ).loc cc0_scratch1)) => (((c : Thread nD τ).loc cc0_scratch1) ↦[S]{q} f : sProp 𝕄)) (set_zb k)
theorem pts_za (c : Dev nD) (k : Fin 8) (q : PosShare TreeShare) (f : Buf (Elt F) ((c : Thread nD τ).loc cc0_scratch2)) :
    ((sl8 zaM k).view.loc (c : Thread nD τ) ↦[(sl8 zaM k).view.set]{q} f : sProp 𝕄) = (((c : Thread nD τ).loc cc0_scratch2) ↦[(rc8 k).set]{q} f) :=
  congrArg (fun S : Finset (Idx ((c : Thread nD τ).loc cc0_scratch2)) => (((c : Thread nD τ).loc cc0_scratch2) ↦[S]{q} f : sProp 𝕄)) (set_za k)
theorem pts_pp (c : Dev nD) (k : Fin 8) (q : PosShare TreeShare) (f : Buf (Elt F) ((c : Thread nD τ).loc cc0_scratch3)) :
    ((sl8 ppM k).view.loc (c : Thread nD τ) ↦[(sl8 ppM k).view.set]{q} f : sProp 𝕄) = (((c : Thread nD τ).loc cc0_scratch3) ↦[(rc8 k).set]{q} f) :=
  congrArg (fun S : Finset (Idx ((c : Thread nD τ).loc cc0_scratch3)) => (((c : Thread nD τ).loc cc0_scratch3) ↦[S]{q} f : sProp 𝕄)) (set_pp k)
theorem pts_gp (c : Dev nD) (k : Fin 8) (q : PosShare TreeShare) (f : Buf (Elt F) ((c : Thread nD τ).loc cc0_scratch4)) :
    ((sl8 gpM k).view.loc (c : Thread nD τ) ↦[(sl8 gpM k).view.set]{q} f : sProp 𝕄) = (((c : Thread nD τ).loc cc0_scratch4) ↦[(rc8 k).set]{q} f) :=
  congrArg (fun S : Finset (Idx ((c : Thread nD τ).loc cc0_scratch4)) => (((c : Thread nD τ).loc cc0_scratch4) ↦[S]{q} f : sProp 𝕄)) (set_gp k)
theorem pts_gz (c : Dev nD) (k : Fin 4) (q : PosShare TreeShare) (f : Buf (Elt F) ((c : Thread nD τ).loc cc0_scratch6)) :
    ((sl4 gzM k).view.loc (c : Thread nD τ) ↦[(sl4 gzM k).view.set]{q} f : sProp 𝕄) = (((c : Thread nD τ).loc cc0_scratch6) ↦[(rc4 k).set]{q} f) :=
  congrArg (fun S : Finset (Idx ((c : Thread nD τ).loc cc0_scratch6)) => (((c : Thread nD τ).loc cc0_scratch6) ↦[S]{q} f : sProp 𝕄)) (set_gz k)

theorem pts_bl (c : Dev nD) (q : PosShare TreeShare) (f : Buf (Elt F) ((c : Thread nD τ).loc cc0_scratch5)) :
    ((blM.view).loc (c : Thread nD τ) ↦[blM.view.set]{q} f : sProp 𝕄) = (((c : Thread nD τ).loc cc0_scratch5) ↦{q} f) :=
  congrArg (fun S : Finset (Idx ((c : Thread nD τ).loc cc0_scratch5)) => (((c : Thread nD τ).loc cc0_scratch5) ↦[S]{q} f : sProp 𝕄)) (View.set_whole _)

section Loops

variable (m : (ℓ : Loc nD τ sig) → Buf (Elt F) ℓ) (κ : Dev nD × KI → ℕ) (c : Dev nD)

theorem mem_A {c : Dev nD} {j k : Fin 4} (h : k ≠ row c) : Sum.inl 0 ∈ (sched (F := F) m).duties (cA c j k) 0 := by
  rw [duties_A m c h]; exact Finset.mem_singleton_self _
theorem mem_B {c : Dev nD} {j : Fin 4} {k : Fin 8} (h : k ≠ col c) : Sum.inl 0 ∈ (sched (F := F) m).duties (cB c j k) 0 := by
  rw [duties_B m c h]; exact Finset.mem_singleton_self _
theorem row_ne (r : Fin 3) : row c ≠ row (pz c r) := by rw [row_pz]; exact (zs_ne c r).symm
theorem col_ne (r : Fin 7) : col c ≠ col (pq c r) := by rw [col_pq]; exact (qs_ne c r).symm

/-! ## Signals -/

theorem loop_sigZ :
    iprop((recs m κ ∗ owe c (owed0 c)) ∗ bigSep Finset.univ fun r : Fin 3 => iprop(dutyTok ER (barC (pz c r)) 0 (.inl (rv3 r)) ∗ payBar (pz c r) (.inl (rv3 r))))
      ⊢ wpc c (loop (fun r => signal (sigZ c r)) peers3) (fun _ => iprop((recs m κ ∗ owe c (owedQ c)) ∗ bigSep Finset.univ fun _ : Fin 3 => iprop(emp))) :=
  wp_loop3 (I := fun l => iprop(recs m κ ∗ owe c (l.map (dueZ c) ++ owedQ c))) fun r l =>
    step_signal m κ c _ _ (sigZ_eq c r) _ _
theorem loop_sigQ :
    iprop((recs m κ ∗ owe c (owedQ c)) ∗ bigSep Finset.univ fun r : Fin 7 => iprop(dutyTok ER (barC (pq c r)) 0 (.inr (rv7 r)) ∗ payBar (pq c r) (.inr (rv7 r))))
      ⊢ wpc c (loop (fun r => signal (sigQ c r)) peers7) (fun _ => iprop((recs m κ ∗ owe c (owed1 c)) ∗ bigSep Finset.univ fun _ : Fin 7 => iprop(emp))) :=
  wp_loop7 (I := fun l => iprop(recs m κ ∗ owe c (l.map (dueQ c) ++ owed1 c))) fun r l =>
    step_signal m κ c _ _ (sigQ_eq c r) _ _

/-! ## Sends -/

theorem loop_sendA :
    iprop((recs m κ ∗ owe c (owed1 c)) ∗ bigSep Finset.univ fun r : Fin 3 =>
        iprop((dutyTok ER (cA c 0 (zs c r)) 0 (.inl 0) ∗ dutyTok ER (cA (pz c r) 1 (row c)) 0 (.inl 0))
          ∗ pbP c (zs c r) (PB m c) ∗ ∃ f, zbP (pz c r) (row c) f))
      ⊢ wpc c (loop (sendA c) peers3) (fun _ => iprop((recs m κ ∗ owe c (owed2 c))
          ∗ bigSep Finset.univ fun r : Fin 3 => cred (tallyAt (cA c 0 (zs c r)) 0 NA))) :=
  wp_loop3 (I := fun l => iprop(recs m κ ∗ owe c (l.map (dueA c) ++ owed2 c))) fun r l => by
    have h := step_send m κ c _ _ (dstA_eq c r) (peer4_eq pbM c r) (own4_eq zbM c) (sem7_eq c r) (sem8o_eq c)
      (.inr (.inl (0, zs c r))) (.inr (.inl (1, row c))) rfl rfl
      (h1 := (((Memref.isWhole_whole _).wordExact_slice rfl _ (k0_off4_wordsbf16 c r)).reshape _ _)) (h2 := (((Memref.isWhole_whole _).wordExact_slice rfl _ (k0_off3_wordsbf16 c)).reshape _ _)) (hsc := rfl) (h3 := ⟨⟨rfl, Or.inl rfl⟩, trivial⟩)
      2 NA (l.map (dueA c) ++ owed2 c) fullShare (PB m c)
      (mem_A m (zs_ne c r)) (mem_A m (row_ne c r)) (amount_A m c 0 (zs c r) _) (amount_A m (pz c r) 1 (row c) _) rfl
      (by rw [payload_A]; unfold payA; exact Entails.of_eq (pts_pb c (zs c r) fullShare (PB m c)))
      (fun fd => by
        rw [payload_A]; unfold payA
        refine (Entails.of_eq (pts_zb (pz c r) (row c) fullShare _)).trans (Entails.of_eq (pointsTo_congr fun i hi => ?_))
        refine (land_zb (row c) (zs c r) fd (PB m c) i hi).trans ?_
        unfold ZB; rw [mem4.mp hi, col_pz, row_pz, at2_row_col])
    iintro ⟨HI, Ht, Hs, ⟨%f, Hd⟩⟩
    iapply h
    isplitl [HI]; · iexact HI
    isplitl [Ht]; · iexact Ht
    isplitl [Hs]
    · iapply (Entails.of_eq (pts_pb c (zs c r) fullShare (PB m c)).symm); iexact Hs
    · iexists f; iapply (Entails.of_eq (pts_zb (pz c r) (row c) fullShare f).symm); iexact Hd
theorem loop_sendB :
    iprop((recs m κ ∗ owe c (owed2 c)) ∗ bigSep Finset.univ fun r : Fin 7 =>
        iprop((dutyTok ER (cB c 0 (qs c r)) 0 (.inl 0) ∗ dutyTok ER (cB (pq c r) 1 (col c)) 0 (.inl 0))
          ∗ zaP c (qs c r) (ZA m c) ∗ ∃ f, ppP (pq c r) (col c) f))
      ⊢ wpc c (loop (sendB c) peers7) (fun _ => iprop((recs m κ ∗ owe c (owed3 c))
          ∗ bigSep Finset.univ fun r : Fin 7 => cred (tallyAt (cB c 0 (qs c r)) 0 NB))) :=
  wp_loop7 (I := fun l => iprop(recs m κ ∗ owe c (l.map (dueB c) ++ owed3 c))) fun r l => by
    have h := step_send m κ c _ _ (dstB_eq c r) (peer8_eq zaM c r) (own8_eq ppM c) (sem9_eq c r) (sem10o_eq c)
      (.inr (.inr (0, qs c r))) (.inr (.inr (1, col c))) rfl rfl
      (h1 := (((Memref.isWhole_whole _).wordExact_slice rfl _ (k0_off9_wordsbf16 c r)).reshape _ _)) (h2 := (((Memref.isWhole_whole _).wordExact_slice rfl _ (k0_off8_wordsbf16 c)).reshape _ _)) (hsc := rfl) (h3 := ⟨⟨rfl, Or.inl rfl⟩, trivial⟩)
      3 NB (l.map (dueB c) ++ owed3 c) fullShare (ZA m c)
      (mem_B m (qs_ne c r)) (mem_B m (col_ne c r)) (amount_B m c 0 (qs c r) _) (amount_B m (pq c r) 1 (col c) _) rfl
      (by rw [payload_B]; unfold payB; exact Entails.of_eq (pts_za c (qs c r) fullShare (ZA m c)))
      (fun fd => by
        rw [payload_B]; unfold payB
        refine (Entails.of_eq (pts_pp (pq c r) (col c) fullShare _)).trans (Entails.of_eq (pointsTo_congr fun i hi => ?_))
        refine (land_pp (col c) (qs c r) fd (ZA m c) i hi).trans ?_
        unfold PP; rw [mem8.mp hi, col_pq, row_pq, at2_row_col])
    iintro ⟨HI, Ht, Hs, ⟨%f, Hd⟩⟩
    iapply h
    isplitl [HI]; · iexact HI
    isplitl [Ht]; · iexact Ht
    isplitl [Hs]
    · iapply (Entails.of_eq (pts_za c (qs c r) fullShare (ZA m c)).symm); iexact Hs
    · iexists f; iapply (Entails.of_eq (pts_pp (pq c r) (col c) fullShare f).symm); iexact Hd
theorem loop_sendBp :
    iprop((recs m κ ∗ owe c (owed3 c)) ∗ bigSep Finset.univ fun r : Fin 7 =>
        iprop((dutyTok ER (cB c 2 (qs c r)) 0 (.inl 0) ∗ dutyTok ER (cB (pq c r) 3 (col c)) 0 (.inl 0))
          ∗ gpP c (col c) (sh8 r.castSucc) (GP m c) ∗ ∃ f, gpP (pq c r) (col c) fullShare f))
      ⊢ wpc c (loop (sendBp c) peers7) (fun _ => iprop((recs m κ ∗ owe c (owed4 c))
          ∗ bigSep Finset.univ fun r : Fin 7 => cred (tallyAt (cB c 2 (qs c r)) 0 NB))) :=
  wp_loop7 (I := fun l => iprop(recs m κ ∗ owe c (l.map (dueBp c) ++ owed4 c))) fun r l => by
    have h := step_send m κ c _ _ (dstBp_eq c r) (own8_eq gpM c) (own8_eq gpM c) (sem11_eq c r) (sem12o_eq c)
      (.inr (.inr (2, qs c r))) (.inr (.inr (3, col c))) rfl rfl
      (h1 := (((Memref.isWhole_whole _).wordExact_slice rfl _ (k0_off8_wordsbf16 c)).reshape _ _)) (h2 := (((Memref.isWhole_whole _).wordExact_slice rfl _ (k0_off8_wordsbf16 c)).reshape _ _)) (hsc := rfl) (h3 := ⟨⟨rfl, Or.inl rfl⟩, trivial⟩)
      4 NB (l.map (dueBp c) ++ owed4 c) (sh8 r.castSucc) (GP m c)
      (mem_B m (qs_ne c r)) (mem_B m (col_ne c r)) (amount_B m c 2 (qs c r) _) (amount_B m (pq c r) 3 (col c) _) rfl
      (by rw [payload_B]; unfold payB; rw [peerNo8_qs]; exact Entails.of_eq (pts_gp c (col c) _ (GP m c)))
      (fun fd => by
        rw [payload_B]; unfold payB
        refine (Entails.of_eq (pts_gp (pq c r) (col c) fullShare _)).trans (Entails.of_eq (pointsTo_congr fun i hi => ?_))
        refine (land_gp (col c) (col c) fd (GP m c) i hi).trans ?_
        unfold GP; rw [row_pq, ← mem8.mp hi, put8_self])
    iintro ⟨HI, Ht, Hs, ⟨%f, Hd⟩⟩
    iapply h
    isplitl [HI]; · iexact HI
    isplitl [Ht]; · iexact Ht
    isplitl [Hs]
    · iapply (Entails.of_eq (pts_gp c (col c) (sh8 r.castSucc) (GP m c)).symm); iexact Hs
    · iexists f; iapply (Entails.of_eq (pts_gp (pq c r) (col c) fullShare f).symm); iexact Hd
theorem loop_sendAp :
    iprop((recs m κ ∗ owe c (owed4 c)) ∗ bigSep Finset.univ fun r : Fin 3 =>
        iprop((dutyTok ER (cA c 2 (zs c r)) 0 (.inl 0) ∗ dutyTok ER (cA (pz c r) 3 (row c)) 0 (.inl 0))
          ∗ blP c (sh4 r.castSucc) (BL m c) ∗ ∃ f, gzP (pz c r) (row c) f))
      ⊢ wpc c (loop (sendAp c) peers3) (fun _ => iprop((recs m κ ∗ owe c [])
          ∗ bigSep Finset.univ fun r : Fin 3 => cred (tallyAt (cA c 2 (zs c r)) 0 NA))) :=
  wp_loop3 (I := fun l => iprop(recs m κ ∗ owe c (l.map (dueAp c) ++ []))) fun r l => by
    have h := step_send m κ c _ _ (dstAp_eq c r) (rfl : (blM : Memref sig .tc .vmem S128x512 .bf16) = blM) (own4_eq gzM c) (sem13_eq c r) (sem14o_eq c)
      (.inr (.inl (2, zs c r))) (.inr (.inl (3, row c))) rfl rfl
      (h1 := (Memref.isWhole_whole _).wordExact) (h2 := (((Memref.isWhole_whole _).wordExact_slice rfl _ (k0_off3_wordsbf16 c)).reshape _ _)) (hsc := rfl) (h3 := ⟨⟨rfl, Or.inl rfl⟩, trivial⟩)
      5 NA (l.map (dueAp c) ++ []) (sh4 r.castSucc) (BL m c)
      (mem_A m (zs_ne c r)) (mem_A m (row_ne c r)) (amount_A m c 2 (zs c r) _) (amount_A m (pz c r) 3 (row c) _) rfl
      (by rw [payload_A]; unfold payA; rw [peerNo4_zs]; exact Entails.of_eq (pts_bl c _ (BL m c)))
      (fun fd => by
        rw [payload_A]; unfold payA
        refine (Entails.of_eq (pts_gz (pz c r) (row c) fullShare _)).trans (Entails.of_eq (pointsTo_congr fun i hi => ?_))
        refine (land_gz (row c) fd (BL m c) i hi).trans ?_
        unfold GZ; rw [pay9_apply, mem4.mp hi, col_pz, at2_row_col])
    iintro ⟨HI, Ht, Hs, ⟨%f, Hd⟩⟩
    iapply h
    isplitl [HI]; · iexact HI
    isplitl [Ht]; · iexact Ht
    isplitl [Hs]
    · iapply (Entails.of_eq (pts_bl c (sh4 r.castSucc) (BL m c)).symm); iexact Hs
    · iexists f; iapply (Entails.of_eq (pts_gz (pz c r) (row c) fullShare f).symm); iexact Hd

/-! ## Landings -/

theorem loop_landA :
    iprop((recs m κ ∗ owe c (owed2 c)) ∗ bigSep Finset.univ fun r : Fin 3 => iprop(cred (tallyAt (cA c 1 (zs c r)) 2 NA) ∗ atPos ER (cA c 1 (zs c r)) 0 ∅ 0))
      ⊢ wpc c (loop (landA c) peers3) (fun _ => iprop((recs m κ ∗ owe c (owed2 c))
          ∗ bigSep Finset.univ fun r : Fin 3 => iprop(semVal (cA c 1 (zs c r)) 0 ∗ zbP c (zs c r) (ZB m c)))) :=
  wp_loop3 (I := fun _ => iprop(recs m κ ∗ owe c (owed2 c))) fun r l =>
    step_wait m κ c (sem8_eq c r) (.inr (.inl (1, zs c r))) rfl 2 NA (by decide) _ (above2 c 2 (by decide)) rfl (expect_A m c (zs_ne c r)) _ ((rest_A m c (zs_ne c r)))
theorem loop_landB :
    iprop((recs m κ ∗ owe c (owed3 c)) ∗ bigSep Finset.univ fun r : Fin 7 => iprop(cred (tallyAt (cB c 1 (qs c r)) 3 NB) ∗ atPos ER (cB c 1 (qs c r)) 0 ∅ 0))
      ⊢ wpc c (loop (landB c) peers7) (fun _ => iprop((recs m κ ∗ owe c (owed3 c))
          ∗ bigSep Finset.univ fun r : Fin 7 => iprop(semVal (cB c 1 (qs c r)) 0 ∗ ppP c (qs c r) (PP m c)))) :=
  wp_loop7 (I := fun _ => iprop(recs m κ ∗ owe c (owed3 c))) fun r l =>
    step_wait m κ c (sem10_eq c r) (.inr (.inr (1, qs c r))) rfl 3 NB (by decide) _ (above3 c 3 (by decide)) rfl (expect_B m c (qs_ne c r)) _ ((rest_B m c (qs_ne c r)))
theorem loop_landBp :
    iprop((recs m κ ∗ owe c (owed4 c)) ∗ bigSep Finset.univ fun r : Fin 7 => iprop(cred (tallyAt (cB c 3 (qs c r)) 4 NB) ∗ atPos ER (cB c 3 (qs c r)) 0 ∅ 0))
      ⊢ wpc c (loop (landBp c) peers7) (fun _ => iprop((recs m κ ∗ owe c (owed4 c))
          ∗ bigSep Finset.univ fun r : Fin 7 => iprop(semVal (cB c 3 (qs c r)) 0 ∗ gpP c (qs c r) fullShare (GP m c)))) :=
  wp_loop7 (I := fun _ => iprop(recs m κ ∗ owe c (owed4 c))) fun r l =>
    step_wait m κ c (sem12_eq c r) (.inr (.inr (3, qs c r))) rfl 4 NB (by decide) _ (above4 c 4 (by decide)) rfl (expect_B m c (qs_ne c r)) _ ((rest_B m c (qs_ne c r)))
theorem loop_landAp :
    iprop((recs m κ ∗ owe c []) ∗ bigSep Finset.univ fun r : Fin 3 => iprop(cred (tallyAt (cA c 3 (zs c r)) 5 NA) ∗ atPos ER (cA c 3 (zs c r)) 0 ∅ 0))
      ⊢ wpc c (loop (landAp c) peers3) (fun _ => iprop((recs m κ ∗ owe c [])
          ∗ bigSep Finset.univ fun r : Fin 3 => iprop(semVal (cA c 3 (zs c r)) 0 ∗ gzP c (zs c r) (GZ m c)))) :=
  wp_loop3 (I := fun _ => iprop(recs m κ ∗ owe c [])) fun r l =>
    step_wait m κ c (sem14_eq c r) (.inr (.inl (3, zs c r))) rfl 5 NA (by decide) _ (aboveL_nil 5) rfl (expect_A m c (zs_ne c r)) _ ((rest_A m c (zs_ne c r)))

/-! ## Departures -/

theorem loop_leftA :
    iprop((recs m κ ∗ owe c []) ∗ bigSep Finset.univ fun r : Fin 3 => iprop(cred (tallyAt (cA c 0 (zs c r)) 0 NA) ∗ atPos ER (cA c 0 (zs c r)) 0 ∅ 0))
      ⊢ wpc c (loop (leftA c) peers3) (fun _ => iprop((recs m κ ∗ owe c [])
          ∗ bigSep Finset.univ fun r : Fin 3 => iprop(semVal (cA c 0 (zs c r)) 0 ∗ pbP c (zs c r) (PB m c)))) :=
  wp_loop3 (I := fun _ => iprop(recs m κ ∗ owe c [])) fun r l =>
    step_wait m κ c (sem7_eq c r) (.inr (.inl (0, zs c r))) rfl 0 NA (by decide) _ (aboveL_nil 0) rfl (expect_A m c (zs_ne c r)) _ ((rest_A m c (zs_ne c r)))
theorem loop_leftB :
    iprop((recs m κ ∗ owe c []) ∗ bigSep Finset.univ fun r : Fin 7 => iprop(cred (tallyAt (cB c 0 (qs c r)) 0 NB) ∗ atPos ER (cB c 0 (qs c r)) 0 ∅ 0))
      ⊢ wpc c (loop (leftB c) peers7) (fun _ => iprop((recs m κ ∗ owe c [])
          ∗ bigSep Finset.univ fun r : Fin 7 => iprop(semVal (cB c 0 (qs c r)) 0 ∗ zaP c (qs c r) (ZA m c)))) :=
  wp_loop7 (I := fun _ => iprop(recs m κ ∗ owe c [])) fun r l =>
    step_wait m κ c (sem9_eq c r) (.inr (.inr (0, qs c r))) rfl 0 NB (by decide) _ (aboveL_nil 0) rfl (expect_B m c (qs_ne c r)) _ ((rest_B m c (qs_ne c r)))
theorem loop_leftBp :
    iprop((recs m κ ∗ owe c []) ∗ bigSep Finset.univ fun r : Fin 7 => iprop(cred (tallyAt (cB c 2 (qs c r)) 0 NB) ∗ atPos ER (cB c 2 (qs c r)) 0 ∅ 0))
      ⊢ wpc c (loop (leftBp c) peers7) (fun _ => iprop((recs m κ ∗ owe c [])
          ∗ bigSep Finset.univ fun r : Fin 7 => iprop(semVal (cB c 2 (qs c r)) 0 ∗ gpP c (col c) (sh8 r.castSucc) (GP m c)))) :=
  wp_loop7 (I := fun _ => iprop(recs m κ ∗ owe c [])) fun r l =>
    step_wait m κ c (sem11_eq c r) (.inr (.inr (2, qs c r))) rfl 0 NB (by decide) _ (aboveL_nil 0) rfl (expect_B m c (qs_ne c r)) _ ((rest_B m c (qs_ne c r)).trans (by unfold payB; rw [peerNo8_qs]))
theorem loop_leftAp :
    iprop((recs m κ ∗ owe c []) ∗ bigSep Finset.univ fun r : Fin 3 => iprop(cred (tallyAt (cA c 2 (zs c r)) 0 NA) ∗ atPos ER (cA c 2 (zs c r)) 0 ∅ 0))
      ⊢ wpc c (loop (leftAp c) peers3) (fun _ => iprop((recs m κ ∗ owe c [])
          ∗ bigSep Finset.univ fun r : Fin 3 => iprop(semVal (cA c 2 (zs c r)) 0 ∗ blP c (sh4 r.castSucc) (BL m c)))) :=
  wp_loop3 (I := fun _ => iprop(recs m κ ∗ owe c [])) fun r l =>
    step_wait m κ c (sem13_eq c r) (.inr (.inl (2, zs c r))) rfl 0 NA (by decide) _ (aboveL_nil 0) rfl (expect_A m c (zs_ne c r)) _ ((rest_A m c (zs_ne c r)).trans (by unfold payA; rw [peerNo4_zs]))

end Loops

end Cert.KernelIdeal.Proto

end
-- ==== Proof.KernelIdeal.Body.lean ====
/-
# The body

The device's program as a whole: what it starts from and what it leaves.
-/
module

public import proofs.«01_k».proof.Proof.KernelIdeal.Comps
public import proofs.«01_k».proof.Proof.KernelIdeal.Loops

@[expose] public section

noncomputable section

namespace Cert.KernelIdeal.Proto

open Cert.KernelIdeal Cert.KernelIdeal.Gen
open Idealize.ShloMosaic
open Idealize.ShloMosaic.TcCoe
open Idealize.ShloMosaic.Rounds
open Idealize.ShloMosaic.TalkSites (Pay tallyL tallyL_append tallyL_pos)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## Families of resources -/

theorem pair {α : Type} [Fintype α] [DecidableEq α] (Φ Ψ : α → sProp 𝕄) :
    iprop(bigSep Finset.univ Φ ∗ bigSep Finset.univ Ψ) ⊢ bigSep Finset.univ fun a => iprop(Φ a ∗ Ψ a) :=
  Entails.of_eq (bigSep_sep' _ _ _).symm
theorem unpair {α : Type} [Fintype α] [DecidableEq α] (Φ Ψ : α → sProp 𝕄) :
    (bigSep Finset.univ fun a => iprop(Φ a ∗ Ψ a)) ⊢ iprop(bigSep Finset.univ Φ ∗ bigSep Finset.univ Ψ) :=
  Entails.of_eq (bigSep_sep' _ _ _)
/-- Contents forgotten, block by block. -/
theorem forget {α B : Type} [Fintype α] [DecidableEq α] (Φ : α → B → sProp 𝕄) (f : B) :
    (bigSep Finset.univ fun a => Φ a f) ⊢ bigSep Finset.univ fun a => iprop(∃ g, Φ a g) :=
  bigSep_mono fun a _ => by
    show (Φ a f : sProp 𝕄) ⊢ iprop(∃ g, Φ a g)
    iintro H; iexists f; iexact H
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} from rfl, bigSep_insert (by decide), bigSep_insert (by decide),
    bigSep_insert (by decide), bigSep_singleton]
  rfl

/-- The device's semaphores: the barrier's, and those of the four column and the four row families, own index first. -/
theorem bigSep_KI (c : Dev nD) (Φ : KI → sProp 𝕄) :
    bigSep Finset.univ Φ = iprop(Φ (.inl ()) ∗
      ((bigSep Finset.univ fun j : Fin 4 => Φ (.inr (.inl (j, row c))))
        ∗ (bigSep Finset.univ fun r : Fin 3 => Φ (.inr (.inl (0, zs c r)))) ∗ (bigSep Finset.univ fun r : Fin 3 => Φ (.inr (.inl (1, zs c r))))
        ∗ (bigSep Finset.univ fun r : Fin 3 => Φ (.inr (.inl (2, zs c r)))) ∗ (bigSep Finset.univ fun r : Fin 3 => Φ (.inr (.inl (3, zs c r)))))
      ∗ (bigSep Finset.univ fun j : Fin 4 => Φ (.inr (.inr (j, col c))))
        ∗ (bigSep Finset.univ fun r : Fin 7 => Φ (.inr (.inr (0, qs c r)))) ∗ (bigSep Finset.univ fun r : Fin 7 => Φ (.inr (.inr (1, qs c r))))
        ∗ (bigSep Finset.univ fun r : Fin 7 => Φ (.inr (.inr (2, qs c r)))) ∗ (bigSep Finset.univ fun r : Fin 7 => Φ (.inr (.inr (3, qs c r))))) := by
  rw [bigSep_univ_sum, bigSep_univ_sum, bigSep_univ_prod, bigSep_univ_prod,
    show (Finset.univ : Finset Unit) = {()} from rfl, bigSep_singleton,
    bigSep_congr fun j _ => bigSep4 c (fun k => Φ (.inr (.inl (j, k)))), bigSep_sep',
    bigSep_congr fun j _ => bigSep8 c (fun k => Φ (.inr (.inr (j, k)))), bigSep_sep',
    bigSep_four (fun j => bigSep Finset.univ fun r : Fin 3 => Φ (.inr (.inl (j, zs c r)))),
    bigSep_four (fun j => bigSep Finset.univ fun r : Fin 7 => Φ (.inr (.inr (j, qs c r))))]
  rfl

/-! ## A buffer opened into its own block and those for the peers -/

theorem open_zb (c : Dev nD) : (iprop(∃ f, ((c : Thread nD τ).loc cc0_scratch1) ↦{fullShare} f) : sProp 𝕄)
    ⊢ iprop((∃ f, zbP (F := F) c (row c) f) ∗ bigSep Finset.univ fun r : Fin 3 => iprop(∃ f, zbP (F := F) c (zs c r) f)) := by
  iintro ⟨%f, H⟩
  ihave H := (Entails.of_eq (split_zb c f)) $$ H
  icases H with ⟨H, Hr⟩
  isplitl [H]; · iexists f; iexact H
  iapply (forget (fun r : Fin 3 => zbP (F := F) c (zs c r)) f)
  iexact Hr
theorem open_gz (c : Dev nD) : (iprop(∃ f, ((c : Thread nD τ).loc cc0_scratch6) ↦{fullShare} f) : sProp 𝕄)
    ⊢ iprop((∃ f, gzP (F := F) c (row c) f) ∗ bigSep Finset.univ fun r : Fin 3 => iprop(∃ f, gzP (F := F) c (zs c r) f)) := by
  iintro ⟨%f, H⟩
  ihave H := (Entails.of_eq (split_gz c f)) $$ H
  icases H with ⟨H, Hr⟩
  isplitl [H]; · iexists f; iexact H
  iapply (forget (fun r : Fin 3 => gzP (F := F) c (zs c r)) f)
  iexact Hr
theorem open_pp (c : Dev nD) : (iprop(∃ f, ((c : Thread nD τ).loc cc0_scratch3) ↦{fullShare} f) : sProp 𝕄)
    ⊢ iprop((∃ f, ppP (F := F) c (col c) f) ∗ bigSep Finset.univ fun r : Fin 7 => iprop(∃ f, ppP (F := F) c (qs c r) f)) := by
  iintro ⟨%f, H⟩
  ihave H := (Entails.of_eq (split_pp c f)) $$ H
  icases H with ⟨H, Hr⟩
  isplitl [H]; · iexists f; iexact H
  iapply (forget (fun r : Fin 7 => ppP (F := F) c (qs c r)) f)
  iexact Hr
theorem open_gp (c : Dev nD) : (iprop(∃ f, ((c : Thread nD τ).loc cc0_scratch4) ↦{fullShare} f) : sProp 𝕄)
    ⊢ iprop((∃ f, gpP (F := F) c (col c) fullShare f) ∗ bigSep Finset.univ fun r : Fin 7 => iprop(∃ f, gpP (F := F) c (qs c r) fullShare f)) := by
  iintro ⟨%f, H⟩
  ihave H := (Entails.of_eq (split_gp c fullShare f)) $$ H
  icases H with ⟨H, Hr⟩
  isplitl [H]; · iexists f; iexact H
  iapply (forget (fun r : Fin 7 => gpP (F := F) c (qs c r) fullShare) f)
  iexact Hr

/-- What a signal hands over, as the sender holds it. -/
theorem handZ (c : Dev nD) (r : Fin 3) :
    payBar (F := F) (pz c r) (.inl (rv3 r)) = iprop((∃ f, zbP (F := F) c (zs c r) f) ∗ ∃ f, gzP (F := F) c (zs c r) f) := by
  show iprop((∃ f, zbP (F := F) (pz (pz c r) (rv3 r)) (row (pz c r)) f) ∗ ∃ f, gzP (F := F) (pz (pz c r) (rv3 r)) (row (pz c r)) f) = _
  rw [pz_pz, row_pz]
theorem handQ (c : Dev nD) (r : Fin 7) :
    payBar (F := F) (pq c r) (.inr (rv7 r)) = iprop((∃ f, ppP (F := F) c (qs c r) f) ∗ ∃ f, gpP (F := F) c (qs c r) fullShare f) := by
  show iprop((∃ f, ppP (F := F) (pq (pq c r) (rv7 r)) (col (pq c r)) f) ∗ ∃ f, gpP (F := F) (pq (pq c r) (rv7 r)) (col (pq c r)) fullShare f) = _
  rw [pq_pq, col_pq]

theorem give {n : ℕ} {T X Y Z : Fin n → sProp 𝕄} (h : ∀ r, Z r = iprop(X r ∗ Y r)) :
    iprop(bigSep Finset.univ T ∗ bigSep Finset.univ X ∗ bigSep Finset.univ Y) ⊢ bigSep Finset.univ fun r => iprop(T r ∗ Z r) := by
  rw [bigSep_congr fun r _ => congrArg (fun z => iprop(T r ∗ z)) (h r)]
  iintro ⟨HT, HX, HY⟩
  iapply (pair T (fun r => iprop(X r ∗ Y r)))
  isplitl [HT]; · iexact HT
  iapply (pair X Y)
  isplitl [HX] <;> iassumption

/-- The last part of a program. -/
theorem seq_last {c : Dev nD} {p : P (F := F) PUnit} {A B : sProp 𝕄} {Z : PUnit → sProp 𝕄}
    (h : A ⊢ wpc c p (fun _ => B)) : A ⊢ iprop((B -∗ Z ⟨⟩) -∗ wpc c p Z) := by
  unfold wpc
  iintro HA Hk
  iapply (wp_wand frame _ Set.univ) $$ [HA]
  · iapply h; iexact HA
  iintro %u HB
  iapply Hk; iexact HB

section Body

variable (m : (ℓ : Loc nD τ sig) → Buf (Elt F) ℓ) (κ : Dev nD × KI → ℕ) (c : Dev nD)

/-- The tokens of the payments device `c` makes. -/
def toks : sProp 𝕄 := iprop(
  (bigSep Finset.univ fun r : Fin 3 => dutyTok ER (barC (pz c r)) 0 (.inl (rv3 r)))
  ∗ (bigSep Finset.univ fun r : Fin 7 => dutyTok ER (barC (pq c r)) 0 (.inr (rv7 r)))
  ∗ (bigSep Finset.univ fun r : Fin 3 => iprop(dutyTok ER (cA c 0 (zs c r)) 0 (.inl 0) ∗ dutyTok ER (cA (pz c r) 1 (row c)) 0 (.inl 0)))
  ∗ (bigSep Finset.univ fun r : Fin 7 => iprop(dutyTok ER (cB c 0 (qs c r)) 0 (.inl 0) ∗ dutyTok ER (cB (pq c r) 1 (col c)) 0 (.inl 0)))
  ∗ (bigSep Finset.univ fun r : Fin 7 => iprop(dutyTok ER (cB c 2 (qs c r)) 0 (.inl 0) ∗ dutyTok ER (cB (pq c r) 3 (col c)) 0 (.inl 0)))
  ∗ (bigSep Finset.univ fun r : Fin 3 => iprop(dutyTok ER (cA c 2 (zs c r)) 0 (.inl 0) ∗ dutyTok ER (cA (pz c r) 3 (row c)) 0 (.inl 0))))
/-- The credits for what the peers owe it. -/
def crds : sProp 𝕄 := iprop(cred (tallyAt (barC c) 1 10)
  ∗ (bigSep Finset.univ fun r : Fin 3 => cred (tallyAt (cA c 1 (zs c r)) 2 NA)) ∗ (bigSep Finset.univ fun r : Fin 7 => cred (tallyAt (cB c 1 (qs c r)) 3 NB))
  ∗ (bigSep Finset.univ fun r : Fin 7 => cred (tallyAt (cB c 3 (qs c r)) 4 NB)) ∗ (bigSep Finset.univ fun r : Fin 3 => cred (tallyAt (cA c 3 (zs c r)) 5 NA)))
/-- Its scratch buffers, of any contents. -/
def bufs : sProp 𝕄 := iprop((∃ f, ((c : Thread nD τ).loc cc0_scratch0) ↦{fullShare} f) ∗ (∃ f, ((c : Thread nD τ).loc cc0_scratch1) ↦{fullShare} f)
  ∗ (∃ f, ((c : Thread nD τ).loc cc0_scratch2) ↦{fullShare} f) ∗ (∃ f, ((c : Thread nD τ).loc cc0_scratch3) ↦{fullShare} f)
  ∗ (∃ f, ((c : Thread nD τ).loc cc0_scratch4) ↦{fullShare} f) ∗ (∃ f, ((c : Thread nD τ).loc cc0_scratch5) ↦{fullShare} f)
  ∗ ∃ f, ((c : Thread nD τ).loc cc0_scratch6) ↦{fullShare} f)
/-- What the program holds besides the records: at the start and at the end. -/
def held : sProp 𝕄 := iprop(toks (F := F) c ∗ crds (F := F) c ∗ (bigSep Finset.univ fun k : KI => atPos ER (kcell (c, k)) 0 ∅ 0) ∗ bufs (F := F) c)
def kept : sProp 𝕄 := iprop((bigSep Finset.univ fun k : KI => semVal (kcell (c, k)) 0) ∗ bufs (F := F) c)

theorem close_own : iprop(recs m κ ∗ (bigSep Finset.univ fun j : Fin 4 => atPos ER (cA c j (row c)) 0 ∅ 0) ∗ bigSep Finset.univ fun j : Fin 4 => atPos ER (cB c j (col c)) 0 ∅ 0)
    ⊢ iprop(|={Set.univ}=> ((bigSep Finset.univ fun j : Fin 4 => semVal (cA c j (row c)) 0) ∗ bigSep Finset.univ fun j : Fin 4 => semVal (cB c j (col c)) 0)) := by
  have hA : iprop(recs m κ ∗ bigSep Finset.univ fun j : Fin 4 => atPos ER (cA c j (row c)) 0 ∅ 0)
      ⊢ iprop(|={Set.univ}=> bigSep Finset.univ fun j : Fin 4 => semVal (cA c j (row c)) 0) :=
    (bigSep_with_persistent (R := recs m κ) fun j _ => close_A m κ c j).trans (bigSep_fupd _ _)
  have hB : iprop(recs m κ ∗ bigSep Finset.univ fun j : Fin 4 => atPos ER (cB c j (col c)) 0 ∅ 0)
      ⊢ iprop(|={Set.univ}=> bigSep Finset.univ fun j : Fin 4 => semVal (cB c j (col c)) 0) :=
    (bigSep_with_persistent (R := recs m κ) fun j _ => close_B m κ c j).trans (bigSep_fupd _ _)
  iintro ⟨#HR, HA, HB⟩
  imod hA $$ [HA] with HA
  · isplitr; · iexact HR
    iexact HA
  imod hB $$ [HB] with HB
  · isplitr; · iexact HR
    iexact HB
  imodintro
  isplitl [HA] <;> iassumption

/-- What comes with the barrier's wait, by buffer. -/
theorem takeZ (c : Dev nD) : (bigSep Finset.univ fun r : Fin 3 => payBar (F := F) c (.inl r))
    ⊢ iprop((bigSep Finset.univ fun r : Fin 3 => iprop(∃ f, zbP (F := F) (pz c r) (row c) f)) ∗ bigSep Finset.univ fun r : Fin 3 => iprop(∃ f, gzP (F := F) (pz c r) (row c) f)) :=
  unpair (fun r : Fin 3 => iprop(∃ f, zbP (F := F) (pz c r) (row c) f)) (fun r : Fin 3 => iprop(∃ f, gzP (F := F) (pz c r) (row c) f))
theorem takeQ (c : Dev nD) : (bigSep Finset.univ fun r : Fin 7 => payBar (F := F) c (.inr r))
    ⊢ iprop((bigSep Finset.univ fun r : Fin 7 => iprop(∃ f, ppP (F := F) (pq c r) (col c) f)) ∗ bigSep Finset.univ fun r : Fin 7 => iprop(∃ f, gpP (F := F) (pq c r) (col c) fullShare f)) :=
  unpair (fun r : Fin 7 => iprop(∃ f, ppP (F := F) (pq c r) (col c) f)) (fun r : Fin 7 => iprop(∃ f, gpP (F := F) (pq c r) (col c) fullShare f))

set_option maxHeartbeats 1600000 in
/-- The program, part by part in its order. -/
theorem prog_spec :
    iprop((recs m κ ∗ owe c (owed0 c)) ∗ held (F := F) c ∗ (((c : Thread nD τ).loc cc0_stg0_0) ↦{fullShare} X0 m c)
        ∗ (((c : Thread nD τ).loc cc0_stg1_0) ↦{fullShare} X1 m c) ∗ ∃ f, ((c : Thread nD τ).loc cc0_stg2_0) ↦{fullShare} f)
      ⊢ wpc c (prog (F := F) c) (fun _ => iprop(owe c [] ∗ kept (F := F) c ∗ (((c : Thread nD τ).loc cc0_stg0_0) ↦{fullShare} X0 m c)
        ∗ (((c : Thread nD τ).loc cc0_stg1_0) ↦{fullShare} X1 m c) ∗ ((c : Thread nD τ).loc cc0_stg2_0) ↦{fullShare} OUT m c)) := by
  unfold held toks crds bufs prog
  iintro ⟨⟨#HR, HO⟩, ⟨⟨TZ, TQ, TA, TB, TBp, TAp⟩, ⟨CBar, CA, CB, CBp, CAp⟩, HAt, ⟨Hpb, Hzb, Hza, Hpp, Hgp, Hbl, Hgz⟩⟩, Hx, Hw, Ho⟩
  ihave HAt := (Entails.of_eq (bigSep_KI c fun k : KI => atPos ER (kcell (c, k)) 0 ∅ 0)) $$ HAt
  icases HAt with ⟨ABar, ⟨AOwn, A0, A1, A2, A3⟩, BOwn, B0, B1, B2, B3⟩
  -- the semaphores at the device's own index are never used
  imod (close_own m κ c) $$ [AOwn BOwn] with ⟨SAown, SBown⟩
  · isplitr; · iexact HR
    isplitl [AOwn]; · iexact AOwn
    iexact BOwn
  ihave HI : iprop(recs m κ ∗ owe c (owed0 c)) $$ [HO]
  · isplitr; · iexact HR
    iexact HO
  ihave Hzb := (open_zb c) $$ Hzb
  icases Hzb with ⟨Zo, Zr⟩
  ihave Hgz := (open_gz c) $$ Hgz
  icases Hgz with ⟨Yo, Yr⟩
  ihave Hpp := (open_pp c) $$ Hpp
  icases Hpp with ⟨Po, Pr⟩
  ihave Hgp := (open_gp c) $$ Hgp
  icases Hgp with ⟨Go, Gr⟩
  -- the barrier's signals, the partial product, the barrier's wait
  iapply (seq (loop_sigZ m κ c)) $$ [HI TZ Zr Yr]
  · isplitl [HI]; · iexact HI
    iapply (give (handZ c))
    isplitl [TZ]; · iexact TZ
    isplitl [Zr]; · iexact Zr
    iexact Yr
  iintro ⟨HI, -⟩
  iapply (seq (loop_sigQ m κ c)) $$ [HI TQ Pr Gr]
  · isplitl [HI]; · iexact HI
    iapply (give (handQ c))
    isplitl [TQ]; · iexact TQ
    isplitl [Pr]; · iexact Pr
    iexact Gr
  iintro ⟨HI, -⟩
  iapply (seq (comp1_spec m c)) $$ [Hx Hw Hpb]
  · isplitl [Hx]; · iexact Hx
    isplitl [Hw]; · iexact Hw
    iexact Hpb
  iintro ⟨Hx, Hw, Hpb⟩
  ihave Hpb := (Entails.of_eq (split_pb c (PB m c))) $$ Hpb
  icases Hpb with ⟨Bo, Br⟩
  iapply (seq (step_bar m κ c)) $$ [HI CBar ABar]
  · isplitl [HI]; · iexact HI
    isplitl [CBar]; · iexact CBar
    iexact ABar
  iintro ⟨HI, SBar, Hz, Hq⟩
  ihave Hz := (takeZ c) $$ Hz
  icases Hz with ⟨Zr, Yr⟩
  ihave Hq := (takeQ c) $$ Hq
  icases Hq with ⟨Pr, Gr⟩
  -- the column's exchange and its sum
  iapply (seq (loop_sendA m κ c)) $$ [HI TA Br Zr]
  · isplitl [HI]; · iexact HI
    iapply (give (fun _ => rfl))
    isplitl [TA]; · iexact TA
    isplitl [Br]; · iexact Br
    iexact Zr
  iintro ⟨HI, SA⟩
  iapply (seq (comp2_spec m c)) $$ [Bo Zo]
  · isplitl [Bo]; · iexact Bo
    iexact Zo
  iintro ⟨Bo, Zo⟩
  iapply (seq (loop_landA m κ c)) $$ [HI CA A1]
  · isplitl [HI]; · iexact HI
    iapply (pair _ _)
    isplitl [CA]; · iexact CA
    iexact A1
  iintro ⟨HI, L⟩
  ihave L := (unpair _ _) $$ L
  icases L with ⟨S1A, Zr⟩
  ihave Hzb := (Entails.of_eq (split_zb c (ZB m c)).symm) $$ [Zo Zr]
  · isplitl [Zo]; · iexact Zo
    iexact Zr
  iapply (seq (comp3_spec m c)) $$ [Hzb Hza]
  · isplitl [Hzb]; · iexact Hzb
    iexact Hza
  iintro ⟨Hzb, Hza⟩
  ihave Hza := (Entails.of_eq (split_za c (ZA m c))) $$ Hza
  icases Hza with ⟨Ao, Ar⟩
  -- the row's exchange and its sum
  iapply (seq (loop_sendB m κ c)) $$ [HI TB Ar Pr]
  · isplitl [HI]; · iexact HI
    iapply (give (fun _ => rfl))
    isplitl [TB]; · iexact TB
    isplitl [Ar]; · iexact Ar
    iexact Pr
  iintro ⟨HI, SB⟩
  iapply (seq (comp4_spec m c)) $$ [Ao Po]
  · isplitl [Ao]; · iexact Ao
    iexact Po
  iintro ⟨Ao, Po⟩
  iapply (seq (loop_landB m κ c)) $$ [HI CB B1]
  · isplitl [HI]; · iexact HI
    iapply (pair _ _)
    isplitl [CB]; · iexact CB
    iexact B1
  iintro ⟨HI, L⟩
  ihave L := (unpair _ _) $$ L
  icases L with ⟨S1B, Pr⟩
  ihave Hpp := (Entails.of_eq (split_pp c (PP m c)).symm) $$ [Po Pr]
  · isplitl [Po]; · iexact Po
    iexact Pr
  iapply (seq (comp5_spec m c)) $$ [Hpp Ho Go]
  · isplitl [Hpp]; · iexact Hpp
    isplitl [Ho]; · iexact Ho
    iexact Go
  iintro ⟨Hpp, Ho, Go⟩
  ihave Go := (Entails.of_eq (deal_gp c (col c) (GP m c))) $$ Go
  icases Go with ⟨Gk, Gs⟩
  -- the sums gathered along the row
  iapply (seq (loop_sendBp m κ c)) $$ [HI TBp Gs Gr]
  · isplitl [HI]; · iexact HI
    iapply (give (fun _ => rfl))
    isplitl [TBp]; · iexact TBp
    isplitl [Gs]; · iexact Gs
    iexact Gr
  iintro ⟨HI, SBp⟩
  iapply (seq (loop_landBp m κ c)) $$ [HI CBp B3]
  · isplitl [HI]; · iexact HI
    iapply (pair _ _)
    isplitl [CBp]; · iexact CBp
    iexact B3
  iintro ⟨HI, L⟩
  ihave L := (unpair _ _) $$ L
  icases L with ⟨S3B, Gq⟩
  ihave Gq := (Entails.of_eq (deal_gp_rest c (GP m c))) $$ Gq
  icases Gq with ⟨Gq, Gx⟩
  ihave Hgp := (Entails.of_eq (split_gp c (sh8 7) (GP m c)).symm) $$ [Gk Gq]
  · isplitl [Gk]; · iexact Gk
    iexact Gq
  iapply (seq (comp6_spec m c (sh8 7))) $$ [Hgp Hbl]
  · isplitl [Hgp]; · iexact Hgp
    iexact Hbl
  iintro ⟨Hgp, Hbl⟩
  ihave Hbl := (Entails.of_eq (deal_bl c (BL m c))) $$ Hbl
  icases Hbl with ⟨Lk, Ls⟩
  -- and along the column
  iapply (seq (loop_sendAp m κ c)) $$ [HI TAp Ls Yr]
  · isplitl [HI]; · iexact HI
    iapply (give (fun _ => rfl))
    isplitl [TAp]; · iexact TAp
    isplitl [Ls]; · iexact Ls
    iexact Yr
  iintro ⟨HI, SAp⟩
  iapply (seq (comp7_spec m c (sh4 3))) $$ [Lk Yo]
  · isplitl [Lk]; · iexact Lk
    iexact Yo
  iintro ⟨Lk, Yo⟩
  iapply (seq (loop_landAp m κ c)) $$ [HI CAp A3]
  · isplitl [HI]; · iexact HI
    iapply (pair _ _)
    isplitl [CAp]; · iexact CAp
    iexact A3
  iintro ⟨HI, L⟩
  ihave L := (unpair _ _) $$ L
  icases L with ⟨S3A, Yr⟩
  ihave Hgz := (Entails.of_eq (split_gz c (GZ m c)).symm) $$ [Yo Yr]
  · isplitl [Yo]; · iexact Yo
    iexact Yr
  iapply (seq (comp8_spec m c)) $$ [Hgz Ho]
  · isplitl [Hgz]; · iexact Hgz
    iexact Ho
  iintro ⟨Hgz, Ho⟩
  -- the copies' departures
  iapply (seq (loop_leftA m κ c)) $$ [HI SA A0]
  · isplitl [HI]; · iexact HI
    iapply (pair _ _)
    isplitl [SA]; · iexact SA
    iexact A0
  iintro ⟨HI, L⟩
  ihave L := (unpair _ _) $$ L
  icases L with ⟨S0A, Br⟩
  iapply (seq (loop_leftB m κ c)) $$ [HI SB B0]
  · isplitl [HI]; · iexact HI
    iapply (pair _ _)
    isplitl [SB]; · iexact SB
    iexact B0
  iintro ⟨HI, L⟩
  ihave L := (unpair _ _) $$ L
  icases L with ⟨S0B, Ar⟩
  iapply (seq (loop_leftBp m κ c)) $$ [HI SBp B2]
  · isplitl [HI]; · iexact HI
    iapply (pair _ _)
    isplitl [SBp]; · iexact SBp
    iexact B2
  iintro ⟨HI, L⟩
  ihave L := (unpair _ _) $$ L
  icases L with ⟨S2B, Gs⟩
  iapply (seq_last (loop_leftAp m κ c)) $$ [HI SAp A2]
  · isplitl [HI]; · iexact HI
    iapply (pair _ _)
    isplitl [SAp]; · iexact SAp
    iexact A2
  iintro ⟨⟨-, HO⟩, L⟩
  ihave L := (unpair _ _) $$ L
  icases L with ⟨S2A, Ls⟩
  unfold kept bufs
  isplitl [HO]; · iexact HO
  isplitr [Hx Hw Ho]
  · isplitl [SBar SAown S0A S1A S2A S3A SBown S0B S1B S2B S3B]
    · iapply (Entails.of_eq (bigSep_KI c fun k : KI => semVal (kcell (c, k)) 0).symm)
      isplitl [SBar]; · iexact SBar
      isplitl [SAown S0A S1A S2A S3A]
      · isplitl [SAown]; · iexact SAown
        isplitl [S0A]; · iexact S0A
        isplitl [S1A]; · iexact S1A
        isplitl [S2A]; · iexact S2A
        iexact S3A
      isplitl [SBown]; · iexact SBown
      isplitl [S0B]; · iexact S0B
      isplitl [S1B]; · iexact S1B
      isplitl [S2B]; · iexact S2B
      iexact S3B
    isplitl [Bo Br]
    · iexists (PB m c)
      iapply (Entails.of_eq (split_pb c (PB m c)).symm)
      isplitl [Bo]; · iexact Bo
      iexact Br
    isplitl [Hzb]; · iexists _; iexact Hzb
    isplitl [Ao Ar]
    · iexists (ZA m c)
      iapply (Entails.of_eq (split_za c (ZA m c)).symm)
      isplitl [Ao]; · iexact Ao
      iexact Ar
    isplitl [Hpp]; · iexists _; iexact Hpp
    isplitl [Hgp Gs Gx]
    · ihave Hgp := (Entails.of_eq (split_gp c (sh8 7) (GP m c))) $$ Hgp
      icases Hgp with ⟨Gk, Gq⟩
      iexists (GP m c)
      iapply (Entails.of_eq (split_gp c fullShare (GP m c)).symm)
      isplitl [Gk Gs]
      · iapply (Entails.of_eq (deal_gp c (col c) (GP m c)).symm)
        isplitl [Gk]; · iexact Gk
        iexact Gs
      iapply (Entails.of_eq (deal_gp_rest c (GP m c)).symm)
      isplitl [Gq]; · iexact Gq
      iexact Gx
    isplitl [Lk Ls]
    · iexists (BL m c)
      iapply (Entails.of_eq (deal_bl c (BL m c)).symm)
      isplitl [Lk]; · iexact Lk
      iexact Ls
    iexists _; iexact Hgz
  isplitl [Hx]; · iexact Hx
  isplitl [Hw]; · iexact Hw
  iexact Ho

end Body

end Cert.KernelIdeal.Proto

end
-- ==== Proof.KernelIdeal.Ghost.lean ====
/-
# The protocol's state at launch

The tokens as they are made and as they are dealt to the devices that pay with them, the credits, the records.
-/
module

public import proofs.«01_k».proof.Proof.KernelIdeal.Body
public import Idealize.ShloMosaic.Lib.Pipeline.Launch
public import Idealize.ShloMosaic.Lib.Pipeline.Kit

@[expose] public section

noncomputable section

namespace Cert.KernelIdeal.Proto

open Cert.KernelIdeal Cert.KernelIdeal.Gen
open Idealize.ShloMosaic
open Idealize.ShloMosaic.TcCoe
open Idealize.ShloMosaic.Rounds
open Idealize.ShloMosaic.TalkSites (Pay tallyL tallyL_append tallyL_pos)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

section Ghost

variable (m : (ℓ : Loc nD τ sig) → Buf (Elt F) ℓ)

/-! ## The tokens -/

/-- The payments a device's own semaphores expect: the barrier's, the column's, the row's. -/
abbrev TI : Type := D ⊕ (Fin 4 × Fin 3) ⊕ (Fin 4 × Fin 7)
def tokK (c : Dev nD) : TI → KI
  | .inl _ => .inl ()
  | .inr (.inl x) => .inr (.inl (x.1, zs c x.2))
  | .inr (.inr x) => .inr (.inr (x.1, qs c x.2))
def tokD : TI → D
  | .inl d => d
  | .inr _ => .inl 0
theorem tokK_inj (c : Dev nD) {t t' : TI} (h : tokK c t = tokK c t') (h' : tokD t = tokD t') : t = t' := by
  rcases t with d | (⟨j, r⟩ | ⟨j, r⟩) <;> rcases t' with d' | (⟨j', r'⟩ | ⟨j', r'⟩) <;> simp only [tokK, reduceCtorEq, Sum.inl.injEq, Sum.inr.injEq, Prod.mk.injEq] at h
  · exact congrArg Sum.inl h'
  · rw [h.1, zs_inj c h.2]
  · rw [h.1, qs_inj c h.2]
abbrev tokOf (x : Dev nD × TI) : GSem nD τ sig × ℕ × D := (kcell (x.1, tokK x.1 x.2), 0, tokD x.2)
theorem tokOf_injective : Function.Injective tokOf := by
  rintro ⟨c, t⟩ ⟨c', t'⟩ h
  have h1 := kcell_injective (congrArg Prod.fst h)
  have h2 : c = c' := congrArg Prod.fst h1
  subst h2
  exact congrArg (Prod.mk c) (tokK_inj c (congrArg Prod.snd h1) (congrArg (fun x : GSem nD τ sig × ℕ × D => x.2.2) h))
def allCells : Finset (GSem nD τ sig) := Finset.univ.map ⟨kcell, kcell_injective⟩
def allToks : Finset (GSem nD τ sig × ℕ × D) := Finset.univ.map ⟨tokOf, tokOf_injective⟩

/-- A device's tokens as made, for its own semaphores. -/
def made (c : Dev nD) : sProp 𝕄 := bigSep Finset.univ fun t : TI => dutyTok ER (kcell (c, tokK c t)) 0 (tokD t)

theorem turnZ (Φ : Dev nD → Fin 3 → sProp 𝕄) :
    (bigSep Finset.univ fun c => bigSep Finset.univ fun r => Φ c r) = bigSep Finset.univ fun c => bigSep Finset.univ fun r => Φ (pz c r) (rv3 r) := by
  rw [← bigSep_univ_prod (fun x : Dev nD × Fin 3 => Φ x.1 x.2), bigSep_univ_equiv turn3, bigSep_univ_prod]; rfl
theorem turnQ (Φ : Dev nD → Fin 7 → sProp 𝕄) :
    (bigSep Finset.univ fun c => bigSep Finset.univ fun r => Φ c r) = bigSep Finset.univ fun c => bigSep Finset.univ fun r => Φ (pq c r) (rv7 r) := by
  rw [← bigSep_univ_prod (fun x : Dev nD × Fin 7 => Φ x.1 x.2), bigSep_univ_equiv turn7, bigSep_univ_prod]; rfl

theorem made_eq (c : Dev nD) : made (F := F) c = iprop(
    ((bigSep Finset.univ fun r : Fin 3 => dutyTok ER (barC c) 0 (.inl r)) ∗ (bigSep Finset.univ fun r : Fin 7 => dutyTok ER (barC c) 0 (.inr r)))
    ∗ ((bigSep Finset.univ fun r : Fin 3 => dutyTok ER (cA c 0 (zs c r)) 0 (.inl 0)) ∗ (bigSep Finset.univ fun r : Fin 3 => dutyTok ER (cA c 1 (zs c r)) 0 (.inl 0))
      ∗ (bigSep Finset.univ fun r : Fin 3 => dutyTok ER (cA c 2 (zs c r)) 0 (.inl 0)) ∗ (bigSep Finset.univ fun r : Fin 3 => dutyTok ER (cA c 3 (zs c r)) 0 (.inl 0)))
    ∗ ((bigSep Finset.univ fun r : Fin 7 => dutyTok ER (cB c 0 (qs c r)) 0 (.inl 0)) ∗ (bigSep Finset.univ fun r : Fin 7 => dutyTok ER (cB c 1 (qs c r)) 0 (.inl 0))
      ∗ (bigSep Finset.univ fun r : Fin 7 => dutyTok ER (cB c 2 (qs c r)) 0 (.inl 0)) ∗ (bigSep Finset.univ fun r : Fin 7 => dutyTok ER (cB c 3 (qs c r)) 0 (.inl 0)))) := by
  unfold made
  rw [bigSep_univ_sum, bigSep_univ_sum, bigSep_univ_sum, bigSep_univ_prod, bigSep_univ_prod, bigSep_four, bigSep_four]
  rfl

/-- Every device gets the tokens it pays with: its peers' barriers' and landings', its own departures'. -/
theorem toks_around : (bigSep Finset.univ fun c : Dev nD => made (F := F) c) ⊢ bigSep Finset.univ fun c : Dev nD => toks (F := F) c := by
  rw [bigSep_congr fun c _ => made_eq (F := F) c]
  unfold toks
  simp only [bigSep_sep']
  rw [turnZ (fun c r => dutyTok ER (barC c) 0 (.inl r)), turnQ (fun c r => dutyTok ER (barC c) 0 (.inr r)),
    turnZ (fun c r => dutyTok ER (cA c 1 (zs c r)) 0 (.inl 0)), turnZ (fun c r => dutyTok ER (cA c 3 (zs c r)) 0 (.inl 0)),
    turnQ (fun c r => dutyTok ER (cB c 1 (qs c r)) 0 (.inl 0)), turnQ (fun c r => dutyTok ER (cB c 3 (qs c r)) 0 (.inl 0))]
  simp only [zs_pz, qs_pq]
  iintro ⟨⟨HZ, HQ⟩, ⟨A0, A1, A2, A3⟩, ⟨B0, B1, B2, B3⟩⟩
  isplitl [HZ]; · iexact HZ
  isplitl [HQ]; · iexact HQ
  isplitl [A0 A1]
  · isplitl [A0] <;> iassumption
  isplitl [B0 B1]
  · isplitl [B0] <;> iassumption
  isplitl [B2 B3]
  · isplitl [B2] <;> iassumption
  isplitl [A2] <;> iassumption

/-! ## The credits -/

theorem cred_add' (a b : CellTallies nD τ sig ℕ) : (cred (a + b) : sProp 𝕄) = iprop(cred a ∗ cred b) :=
  BI.Entails.antisymm (cred_add _ _).1 (cred_add _ _).2
theorem cred_sum' {α : Type} [DecidableEq α] (s : Finset α) (f : α → CellTallies nD τ sig ℕ) :
    (cred (∑ a ∈ s, f a) : sProp 𝕄) = bigSep s fun a => cred (f a) := by
  induction s using Finset.induction_on with
  | empty => rw [Finset.sum_empty, cred_zero, bigSep_empty]; rfl
  | insert a s ha ih => rw [Finset.sum_insert ha, cred_add', ih, bigSep_insert ha]; rfl
theorem tallyL_map3 (f : Fin 3 → Pay nD τ sig) (l : List (Pay nD τ sig)) : tallyL (peers3.map f ++ l) = (∑ r, (f r).tally) + tallyL l := by
  rw [tallyL_append, Fin.sum_univ_three]
  show (f 0).tally + ((f 1).tally + ((f 2).tally + 0)) + tallyL l = _
  simp only [add_zero, add_assoc]
theorem tallyL_map7 (f : Fin 7 → Pay nD τ sig) (l : List (Pay nD τ sig)) : tallyL (peers7.map f ++ l) = (∑ r, (f r).tally) + tallyL l := by
  rw [tallyL_append, Fin.sum_univ_seven]
  show (f 0).tally + ((f 1).tally + ((f 2).tally + ((f 3).tally + ((f 4).tally + ((f 5).tally + ((f 6).tally + 0)))))) + tallyL l = _
  simp only [add_zero, add_assoc]

/-- What device `c` is owed. -/
def gets (c : Dev nD) : List (Pay nD τ sig) :=
  peers3.map (fun _ => (barC c, 1, 1)) ++ (peers7.map (fun _ => (barC c, 1, 1)) ++ (peers3.map (fun r => (cA c 1 (zs c r), 2, NA))
    ++ (peers7.map (fun r => (cB c 1 (qs c r), 3, NB)) ++ (peers7.map (fun r => (cB c 3 (qs c r), 4, NB)) ++ (peers3.map (fun r => (cA c 3 (zs c r), 5, NA)) ++ [])))))

theorem sumZ (f : Dev nD → Fin 3 → CellTallies nD τ sig ℕ) : (∑ c, ∑ r, f (pz c r) (rv3 r)) = ∑ c, ∑ r, f c r := by
  rw [← Fintype.sum_prod_type' (f := f), ← Equiv.sum_comp turn3 (fun x : Dev nD × Fin 3 => f x.1 x.2), Fintype.sum_prod_type]; rfl
theorem sumQ (f : Dev nD → Fin 7 → CellTallies nD τ sig ℕ) : (∑ c, ∑ r, f (pq c r) (rv7 r)) = ∑ c, ∑ r, f c r := by
  rw [← Fintype.sum_prod_type' (f := f), ← Equiv.sum_comp turn7 (fun x : Dev nD × Fin 7 => f x.1 x.2), Fintype.sum_prod_type]; rfl

theorem owed_sum : (∑ d : Dev nD, tallyL (owed0 d)) = ∑ d : Dev nD, tallyL (gets d) := by
  unfold owed0 owedQ owed1 owed2 owed3 owed4 gets
  simp only [tallyL_map3, tallyL_map7, Finset.sum_add_distrib]
  have hZ := sumZ fun c r => tallyAt (barC c) 1 1
  have hQ := sumQ fun c r => tallyAt (barC c) 1 1
  have hA := sumZ fun c r => tallyAt (cA c 1 (zs c r)) 2 NA
  have hB := sumQ fun c r => tallyAt (cB c 1 (qs c r)) 3 NB
  have hBp := sumQ fun c r => tallyAt (cB c 3 (qs c r)) 4 NB
  have hAp := sumZ fun c r => tallyAt (cA c 3 (zs c r)) 5 NA
  simp only [zs_pz, qs_pq] at hA hB hBp hAp
  exact congrArg₂ (· + ·) hZ (congrArg₂ (· + ·) hQ (congrArg₂ (· + ·) hA (congrArg₂ (· + ·) hB (congrArg₂ (· + ·) hBp (congrArg₂ (· + ·) hAp rfl)))))

theorem gets_at (d : Dev nD) : ∀ x ∈ gets d, x.1.1 = (d : Thread nD τ) := by
  intro x hx
  simp only [gets, List.mem_append, List.mem_map, List.not_mem_nil, or_false] at hx
  rcases hx with ⟨r, -, rfl⟩ | ⟨r, -, rfl⟩ | ⟨r, -, rfl⟩ | ⟨r, -, rfl⟩ | ⟨r, -, rfl⟩ | ⟨r, -, rfl⟩ <;> rfl

/-- What every device owes at launch. -/
def O₀ (c : Dev nD) : CellTallies nD τ sig ℕ := tallyL (owed0 c)

theorem creds (c : Dev nD) : (Pipeline.launchCred O₀ c : sProp 𝕄) ⊢ crds (F := F) c := by
  rw [show (Pipeline.launchCred O₀ c : sProp 𝕄) = cred (tallyL (gets c)) from
    Pipeline.launchCred_of_sum O₀ (fun d => tallyL (gets d)) owed_sum (fun d g h => by
      obtain ⟨i, hi⟩ := Finsupp.ne_iff.mp h
      obtain ⟨x, hx, rfl, -⟩ := tallyL_pos (Nat.pos_of_ne_zero hi)
      exact gets_at d x hx) c]
  have hbar : (∑ _r : Fin 3, (tallyAt (barC c) 1 1 : CellTallies nD τ sig ℕ)) + (∑ _r : Fin 7, tallyAt (barC c) 1 1) = tallyAt (barC c) 1 10 := by
    simp only [Fin.sum_univ_three, Fin.sum_univ_seven, tallyAt_add]
  unfold gets crds
  simp only [tallyL_map3, tallyL_map7]
  rw [← add_assoc, hbar]
  simp only [cred_add', cred_sum']
  iintro ⟨H0, H1, H2, H3, H4, -⟩
  isplitl [H0]; · iexact H0
  isplitl [H1]; · iexact H1
  isplitl [H2]; · iexact H2
  isplitl [H3] <;> iassumption

/-! ## The records -/

/-- The kernel's own semaphores. -/
abbrev osem : (Fin 4 × Fin 4) ⊕ (Fin 4 × Fin 8) → SemLoc sig := fun k => csem (.inr k)
theorem ownSemFacts : Pipeline.OwnSemFacts cfg0.spec osem where
  isScoped := by decide +kernel
  inj := fun _ _ h => Sum.inr.inj (csem_injective h)
  disj := by decide +kernel

/-- With the barrier's, the device's semaphores. -/
theorem sems_eq (c : Dev nD) :
    iprop(Pipeline.ownSems0 (Ix := ℕ) (Name := ℕ) (U := UU) (Lvl := ℕ) (Val := Elt F) (τ := τ) osem c ∗ unscopedSems0 c)
      = (iprop((bigSep Finset.univ fun k : (Fin 4 × Fin 4) ⊕ (Fin 4 × Fin 8) => semVal (kcell (c, .inr k)) 0) ∗ semVal (barC c) 0) : sProp 𝕄) := by
  have h : (unscopedSems0 c : sProp 𝕄) = semVal (barC c) 0 := by
    unfold unscopedSems0; rw [bigSep_eq_bigSepL_of_eq [SemLoc.reg barS] (by decide) (by decide)]; rfl
  rw [h]; rfl
theorem semsKI (c : Dev nD) :
    (bigSep Finset.univ fun k : KI => semVal (kcell (c, k)) 0 : sProp 𝕄)
      = iprop(semVal (barC c) 0 ∗ bigSep Finset.univ fun k : (Fin 4 × Fin 4) ⊕ (Fin 4 × Fin 8) => semVal (kcell (c, .inr k)) 0) := by
  rw [bigSep_univ_sum, show (Finset.univ : Finset Unit) = {()} from rfl, bigSep_singleton]; rfl

/-- What each device is dealt of the protocol's state, -/
def G (c : Dev nD) : sProp 𝕄 :=
  iprop((bigSep Finset.univ fun k : KI => roundState ER (sched m) (kcell (c, k)) 0)
    ∗ (bigSep Finset.univ fun k : KI => iprop(atPos ER (kcell (c, k)) 0 ∅ 0 ∗ reached ER (kcell (c, k)) 0)) ∗ made (F := F) c)
/-- and what it has once the invariants are allocated and the tokens dealt. -/
def G' (c : Dev nD) : sProp 𝕄 :=
  iprop((∃ κ : Dev nD × KI → ℕ, (bigSep Finset.univ fun ck : Dev nD × KI => cellInv ER (sched m) (κ ck) (kcell ck))
      ∗ bigSep Finset.univ fun ck : Dev nD × KI => reached ER (kcell ck) 0)
    ∗ (bigSep Finset.univ fun k : KI => atPos ER (kcell (c, k)) 0 ∅ 0) ∗ toks (F := F) c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : KI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => made (F := F) c := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem dev_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ n : ℕ, cellInv ER (sched m) n (kcell (c, k))))
          ∗ (bigSep Finset.univ fun k : KI => iprop(atPos ER (kcell (c, k)) 0 ∅ 0 ∗ reached ER (kcell (c, k)) 0)) ∗ made (F := F) c) := by
  have hinv : iprop((bigSep Finset.univ fun k : KI => semVal (kcell (c, k)) 0) ∗ bigSep Finset.univ fun k : KI => roundState ER (sched m) (kcell (c, k)) 0)
      ⊢ (|={Set.univ}=> bigSep Finset.univ fun k : KI => iprop(∃ n : ℕ, cellInv ER (sched m) n (kcell (c, k))) : sProp 𝕄) := by
    rw [← bigSep_sep']
    exact (bigSep_mono fun k _ => (Rounds.body_intro ER (sched m) (kcell (c, k))).trans inv_alloc).trans (bigSep_fupd _ _)
  unfold G
  iintro ⟨Hos, Hus, Hst, Hat, Htok⟩
  ihave Hv := (Entails.of_eq (sems_eq (F := F) c)) $$ [Hos Hus]
  · isplitl [Hos] <;> iassumption
  icases Hv with ⟨Hos, Hus⟩
  ihave Hv := (Entails.of_eq (semsKI (F := F) c).symm) $$ [Hos Hus]
  · isplitl [Hus] <;> iassumption
  imod hinv $$ [Hv Hst] with Hinv
  · isplitl [Hv] <;> iassumption
  imodintro
  isplitl [Hinv]; · iexact Hinv
  isplitl [Hat]; · iexact Hat
  iexact Htok

/-- What every device has of the protocol's shared state. -/
def shared (κ : Dev nD × KI → ℕ) : sProp 𝕄 :=
  iprop((bigSep Finset.univ fun ck : Dev nD × KI => cellInv ER (sched m) (κ ck) (kcell ck))
    ∗ bigSep Finset.univ fun ck : Dev nD × KI => reached ER (kcell ck) 0)
instance shared_persistent (κ : Dev nD × KI → ℕ) : BI.Persistent (shared m κ) := by unfold shared; infer_instance

theorem deal_shared (κ : Dev nD × KI → ℕ) (c : Dev nD) :
    iprop(shared m κ ∗ (bigSep Finset.univ fun k : KI => atPos ER (kcell (c, k)) 0 ∅ 0) ∗ toks (F := F) c) ⊢ G' m c := by
  unfold shared G'
  iintro ⟨⟨#HI, #HR⟩, Hat, Htok⟩
  isplitr
  · iexists κ
    isplitr; · iexact HI
    iexact HR
  isplitl [Hat] <;> iassumption

theorem regroup :
    (bigSep Finset.univ fun c : Dev nD => iprop((bigSep Finset.univ fun k : KI => iprop(∃ n : ℕ, cellInv ER (sched m) n (kcell (c, k))))
          ∗ (bigSep Finset.univ fun k : KI => iprop(atPos ER (kcell (c, k)) 0 ∅ 0 ∗ reached ER (kcell (c, k)) 0)) ∗ made (F := F) c) : sProp 𝕄)
      ⊢ bigSep Finset.univ (G' m) := by
  rw [bigSep_sep', bigSep_sep', ← bigSep_univ_prod (fun ck : Dev nD × KI => iprop(∃ n : ℕ, cellInv ER (sched m) n (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄))]
  iintro ⟨HI, ⟨Hat, #HR⟩, Htok⟩
  ihave HK := (BI.bigSep_exists_pi Finset.univ (fun (ck : Dev nD × KI) (n : ℕ) => (cellInv ER (sched m) n (kcell ck) : sProp 𝕄))) $$ HI
  icases HK with ⟨%κ, #HI⟩
  ihave Htk := (toks_around (F := F)) $$ Htok
  iapply (bigSep_with_persistent (R := shared m κ) fun c _ => deal_shared m κ c)
  isplitr
  · unfold shared
    isplitl; · iexact HI
    iexact HR
  iapply (pair (fun c : Dev nD => bigSep Finset.univ fun k : KI => (atPos ER (kcell (c, k)) 0 ∅ 0 : sProp 𝕄)) (fun c : Dev nD => toks (F := F) c))
  isplitl [Hat]; · iexact Hat
  iexact Htk

/-- All devices' semaphores at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => dev_alloc m c).trans (bigSep_fupd _ _)).trans (BI.fupd_mono (regroup m))

end Ghost

end Cert.KernelIdeal.Proto

end
-- ==== Proof.KernelIdeal.Launch.lean ====
/-
# The launch

One region of one grid point on every device, entered owing what the protocol owes.
-/
module

public import proofs.«01_k».proof.Proof.KernelIdeal.Ghost
public import Idealize.ShloMosaic.Lib.Pipeline.Launch
public import Idealize.ShloMosaic.Lib.Pipeline.Kit
public import Idealize.ShloMosaic.Lib.Tactic
public import Idealize.ShloMosaic.Lib.Pipeline.CollectiveSegs

@[expose] public section

noncomputable section

namespace Cert.KernelIdeal.Proto

open Cert.KernelIdeal Cert.KernelIdeal.Gen
open Idealize.ShloMosaic
open Idealize.ShloMosaic.TcCoe
open Idealize.ShloMosaic.Rounds
open Idealize.ShloMosaic.TalkSites (Pay tallyL tallyL_append tallyL_pos)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

open Idealize.ShloMosaic.Pipeline (Dat Cfg Window BodyObligation cellOf)

section Launch

variable (m : (ℓ : Loc nD τ sig) → Buf (Elt F) ℓ) (ρ : Dev nD → PrngReg)

def s₀ : MemSt nD τ sig (Elt F) := ⟨m, fun _ => 0, ρ⟩

/-- What a device enters with besides its buffers, -/
def start (c : Dev nD) : sProp 𝕄 :=
  iprop((∃ κ, recs m κ) ∗ toks (F := F) c ∗ crds (F := F) c ∗ (bigSep Finset.univ fun k : KI => atPos ER (kcell (c, k)) 0 ∅ 0))
/-- with them, -/
def Φ₀ (c : Dev nD) : sProp 𝕄 := iprop(start m c ∗ bufs (F := F) c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => X0 m c
    | ⟨1, _⟩ => X1 m c
    | ⟨2, _⟩ => OUT m c
  Φ t := match t with
    | ⟨0, _⟩ => Φ₀ m c
    | ⟨_ + 1, _⟩ => kept (F := F) c
  q _ := fullShare
  owed t := match t with
    | ⟨0, _⟩ => O₀ c
    | ⟨_ + 1, _⟩ => 0

theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = ((c : Thread nD τ).loc b ↦{fullShare} X) := by
  have h : (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
    unfold owns; simp only [Memref.view_whole, View.read_whole, View.set_whole]
  rw [h]
  apply BI.Entails.antisymm
  · show (iprop(∃ f : Buf (Elt F) ((c : Thread nD τ).loc b), ⌜f = X⌝ ∗ ((c : Thread nD τ).loc b ↦{fullShare} f)) : sProp 𝕄) ⊢ _
    iintro ⟨%f, %hf, H⟩
    subst hf
    iexact H
  · show ((c : Thread nD τ).loc b ↦{fullShare} X : sProp 𝕄) ⊢ _
    iintro H
    iexists X
    isplitr
    · ipureintro; rfl
    iexact H

def t₀ : Fin cfg0.N := Gen.t0_0
theorem before0 (c : Dev nD) (d) : (dats m ρ 0 c).before (0 : Fin 3) t₀ d = X0 m c := by
  unfold Dat.before; rw [if_pos (Gen.fetch0_0 t₀)]; rfl
theorem before1 (c : Dev nD) (d) : (dats m ρ 0 c).before (1 : Fin 3) t₀ d = X1 m c := by
  unfold Dat.before; rw [if_pos (Gen.fetch0_1 t₀)]; rfl

abbrev stg (c : Dev nD) (b : Ref sig .tc) (X : Buf (Elt F) ((c : Thread nD τ).loc b)) : sProp 𝕄 := ((c : Thread nD τ).loc b ↦{fullShare} X)

def bodyPre (c : Dev nD) : sProp 𝕄 :=
  iprop(Φ₀ m c ∗ (dats m ρ 0 c).owesAt 0 t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(kept (F := F) c ∗ (dats m ρ 0 c).owesAt 0 t₀.succ ∗ stg c cc0_stg0_0 (X0 m c) ∗ stg c cc0_stg1_0 (X1 m c) ∗ stg c cc0_stg2_0 (OUT m c))

theorem owesAt_start (c : Dev nD) : (dats m ρ 0 c).owesAt 0 t₀.castSucc ⊢ owe (F := F) c (owed0 c) := by
  unfold Dat.owesAt Pipeline.owesWithin owe
  iintro ⟨%W, %hW, HO⟩
  rw [show (dats m ρ 0 c).owed t₀.castSucc = tallyL (owed0 c) from rfl]
  iexists W
  iexact HO
theorem owesAt_end (c : Dev nD) : owe (F := F) c [] ⊢ (dats m ρ 0 c).owesAt 0 t₀.succ := by
  unfold Dat.owesAt Pipeline.owesWithin owe
  iintro ⟨%W, HO⟩
  rw [show (dats m ρ 0 c).owed t₀.succ = tallyL [] from rfl]
  iexists W
  isplitr
  · ipureintro; exact fun _ _ => Or.inl trivial
  iexact HO

theorem body_run (c : Dev nD) : bodyPre m ρ c ⊢ wpc c (Prog.lift .deviceId >>= fun c => prog c) (fun _ => bodyPost m ρ c) := by
  unfold wpc
  simp only [Prog.lift, Prog.bind_op, Prog.bind_pure, wp_deviceId]
  unfold bodyPre Φ₀ start
  iintro ⟨⟨⟨⟨%κ, HR⟩, Htok, Hcrd, Hat⟩, Hbuf⟩, Ho, ⟨%d0, H0⟩, ⟨%d1, H1⟩, ⟨%d2, H2⟩⟩
  rw [before0, before1]
  ihave Ho := (owesAt_start m ρ c) $$ Ho
  iapply (seq_last (prog_spec m κ c)) $$ [HR Ho Htok Hcrd Hat Hbuf H0 H1 H2]
  · isplitl [HR Ho]
    · isplitl [HR] <;> iassumption
    isplitl [Htok Hcrd Hat Hbuf]
    · unfold held
      isplitl [Htok]; · iexact Htok
      isplitl [Hcrd]; · iexact Hcrd
      isplitl [Hat] <;> iassumption
    isplitl [H0]; · iexact H0
    isplitl [H1]; · iexact H1
    iexists _
    iexact H2
  iintro ⟨Ho, Hk, H0, H1, H2⟩
  unfold bodyPost
  isplitl [Hk]; · iexact Hk
  isplitl [Ho]
  · iapply (owesAt_end m ρ c); iexact Ho
  isplitl [H0]; · iexact H0
  isplitl [H1] <;> iassumption

set_option maxRecDepth 65536 in
theorem body_obligation (c : Dev nD) : BodyObligation (dats (F := F) m ρ 0 c) (defs₀ (F := F)) 𝒱₀ 0 Set.univ := fun t => by
  rw [Gen.fin_N0 t]
  rw [Gen.bigSep_W0, Gen.bigSep_W0]
  simp only [owns_whole]
  show bodyPre m ρ c ⊢ wpc c (cc0_body (F := F) dyM (Memref.isWhole_whole _) wM (Memref.isWhole_whole _) outM (Memref.isWhole_whole _)
      pbM (Memref.isWhole_whole _) zbM (Memref.isWhole_whole _) zaM (Memref.isWhole_whole _) ppM (Memref.isWhole_whole _)
      gpM (Memref.isWhole_whole _) blM (Memref.isWhole_whole _) gzM (Memref.isWhole_whole _)
      cc0_scratch7 cc0_scratch8 cc0_scratch9 cc0_scratch10 cc0_scratch11 cc0_scratch12 cc0_scratch13 cc0_scratch14) (fun _ => bodyPost m ρ c)
  rw [body_eq_prog]
  exact body_run m ρ c

/-! ## The launch's sides -/

theorem share_eq (c : Dev nD) (w : Fin cfg0.W) : (dats m ρ 0 c).share w = fullShare := by unfold Dat.share; split <;> rfl

def u₀ : UU := (initOf (Pipeline.cells cfgs Gen.cellOf_inj) (Pipeline.launchToks cfgs Gen.cellOf_inj), initOf allCells allToks)

theorem start_intro (c : Dev nD) :
    iprop(Pipeline.unscopedRestP Pipeline.Prefetch.none cfg0.spec c (fun b => m ((c : Thread nD τ).loc b)) ∗ levAts Lv lvl
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  icases HG with ⟨⟨%κ, HI, HR⟩, Hat, Htok⟩
  isplitl
  · isplitl [Hlev HI HR]
    · iexists κ
      unfold recs
      isplitl [HI]; · iexact HI
      isplitl [HR] <;> iassumption
    isplitl [Htok]; · iexact Htok
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, Gen.scopedRest0_eq]
  unfold Φ₀ bufs
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = kept c from rfl, Gen.scopedRest0_eq]
  unfold kept bufs
  iintro ⟨Hv, Hr⟩
  ihave Hv := (Entails.of_eq (semsKI (F := F) c)) $$ Hv
  icases Hv with ⟨Hb, Hk⟩
  ihave Hv := (Entails.of_eq (sems_eq (F := F) c).symm) $$ [Hb Hk]
  · isplitl [Hk] <;> iassumption
  icases Hv with ⟨Hos, Hus⟩
  isplitl [Hus]; · iexact Hus
  isplitl [Hos] <;> iassumption

set_option maxRecDepth 65536 in
theorem waits (c : Dev nD) : (levAts Lv lvl : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 (by decide) (owed0 c) (above0 c)
    · exact mayWait c _ 0 (by decide) [] (aboveL_nil 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory, every run ends with the arrays as computed and the semaphores at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 Gen.cellOf_inj (0 : Fin 1)
    Gen.winFacts0.to₀ ownSemFacts (Pipeline.PreFacts.none _) EP defs₀ 𝒱₀ m ρ main
    (hmain := fun _ => rfl)
    (hbody := body_obligation m ρ) (hne := Gen.block_pos0) (harr := Gen.arr_whole0) (hstage := Gen.stage_whole0) (hshare := share_eq m ρ)
    (hdistinct := Gen.winFacts0.arr_inj) (O₀ := O₀) (howed₀ := fun _ => rfl) (howedN := fun _ => rfl)
    (L := Lv) (lv := lvl) (hL := SiteBlocks.hL 6) (hwaits := waits m ρ) (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m) (hA := fun _ _ => rfl) (hpf := fun _ k => k.elim0)
    (X := start m) (Y := fun c => unscopedSems0 c) (Z := fun _ => iprop(emp)) (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_0 (c : Dev nD) : finalA m ρ c 0 = m ((c : Thread nD τ).loc main_arg0) := (dats (F := F) m ρ 0 c).arrAt_in (0 : Fin 3) rfl _
theorem finalA_1 (c : Dev nD) : finalA m ρ c 1 = m ((c : Thread nD τ).loc main_arg1) := (dats (F := F) m ρ 0 c).arrAt_in (1 : Fin 3) rfl _
theorem finalA_2 (c : Dev nD) : (win0_2.blk (0 : Fin 1)).view.read (Elt F) (finalA m ρ c (2 : Fin 3)) = OUT m c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from Gen.flush0_2 _, if_pos rfl]
  exact View.read_write_univ _ _

end Launch

end Cert.KernelIdeal.Proto

end
-- ==== Proof.KernelIdeal.Value.lean ====
/-
# What the kernel computes, over the extended reals

Every entry of the result is the sum over the devices of their partial dot products, hence one dot product.
-/
module

public import proofs.«01_k».proof.Proof.KernelIdeal.Protocol
public import Idealize.ShloMosaic.Lib.Layout
public import Idealize.ShloMosaic.Lib.MatmulPlain
public import Idealize.ShloMosaic.Lib.StackMember
public import Idealize.ShloMosaic.Lib.ValueIdx
public import Idealize.ShloMosaic.Lib.ValueLayout
public import Idealize.ShloMosaic.Lib.Pipeline.Value

@[expose] public section

noncomputable section

namespace Cert.KernelIdeal.Proto

open Cert.KernelIdeal Cert.KernelIdeal.Gen
open Idealize.ShloMosaic Idealize.ShloMosaic.TcCoe Idealize.ShloMosaic.ValueIdx Idealize.SL.Sem

/-! ## Row numbers -/

/-- Row `r` of block `z` of the result, and row `r` of sixteenth `q` of a block. -/
def up4 (z : Fin 4) (r : Fin 128) : Fin 512 := ⟨128 * z.val + r.val, by omega⟩
def up8 (q : Fin 8) (r : Fin 16) : Fin 128 := ⟨16 * q.val + r.val, by omega⟩
theorem up4_surj (a : Fin 512) : ∃ z r, a = up4 z r := ⟨⟨a.val / 128, by omega⟩, ⟨a.val % 128, by omega⟩, Fin.ext (by simp only [up4]; omega)⟩
theorem up8_surj (s : Fin 128) : ∃ q r, s = up8 q r := ⟨⟨s.val / 16, by omega⟩, ⟨s.val % 16, by omega⟩, Fin.ext (by simp only [up8]; omega)⟩

/-! ## The payloads at an index -/

theorem sum4_at (v : FVec Ideal S4x128x512 .bf16) (q : Fin 8) (r : Fin 16) (j : Fin 512) :
    k0_pay4 v (ix3 q r j) = ∑ z : Fin 4, v (ix3 z (up8 q r) j) := by
  unfold k0_pay4
  dsimp only
  rw [shapeCast_self, shapeCast_apply _ _ (ix3 q r j) (ix2 (up8 q r) j)
    (by rw [Shape.rowMajor_val_two, Shape.rowMajor_val_three]; show (16 * q.val + r.val) * 512 + j.val = (q.val * 16 + r.val) * 512 + j.val; omega), truncf_apply]
  refine (Ideal.multiReduction_add_single _ _ _ _ _ _).trans ?_
  refine Finset.sum_congr rfl fun z _ => ?_
  rw [extf_apply]
  refine congrArg v (funext fun a => Fin.ext ?_)
  match a with
  | ⟨0, _⟩ => rfl
  | ⟨1, _⟩ => rfl
  | ⟨2, _⟩ => rfl

theorem sum8_at (v : FVec Ideal S8x16x512 .bf16) (r : Fin 16) (j : Fin 512) :
    k0_pay7 v (ix3 (0 : Fin 1) r j) = ∑ q : Fin 8, v (ix3 q r j) := by
  unfold k0_pay7 k0_pay6
  dsimp only
  rw [shapeCast_ab_1ab_apply, truncf_apply]
  refine (Ideal.multiReduction_add_single _ _ _ _ _ _).trans ?_
  refine Finset.sum_congr rfl fun z _ => ?_
  rw [extf_apply]
  refine congrArg v (funext fun a => Fin.ext ?_)
  match a with
  | ⟨0, _⟩ => rfl
  | ⟨1, _⟩ => rfl
  | ⟨2, _⟩ => rfl

theorem block_at (v : FVec Ideal S8x16x512 .bf16) (q : Fin 8) (r : Fin 16) (j : Fin 512) : k0_pay8 v (ix2 (up8 q r) j) = v (ix3 q r j) := by
  unfold k0_pay8
  rw [shapeCast_self]
  exact shapeCast_apply _ _ _ _ (by rw [Shape.rowMajor_val_two, Shape.rowMajor_val_three]; show (q.val * 16 + r.val) * 512 + j.val = (16 * q.val + r.val) * 512 + j.val; omega)

theorem lead_at (v : FVec Ideal S128x512 .bf16) (s : Fin 128) (j : Fin 512) : k0_pay9 v (ix3 (0 : Fin 1) s j) = v (ix2 s j) := by
  unfold k0_pay9
  rw [shapeCast_ab_1ab_apply]

theorem whole_at (v : FVec Ideal S4x128x512 .bf16) (z : Fin 4) (s : Fin 128) (j : Fin 512) : k0_pay10 (F := Ideal) v (ix2 (up4 z s) j) = (v (ix3 z s j) : EReal) := by
  unfold k0_pay10
  rw [shapeCast_apply _ _ (ix2 (up4 z s) j) (ix3 z s j)
    (by rw [Shape.rowMajor_val_two, Shape.rowMajor_val_three]; show (z.val * 128 + s.val) * 512 + j.val = (128 * z.val + s.val) * 512 + j.val; omega), extf_apply]

theorem dots_eq : dot_S512x2048_S512x2048_S512x512_1_1_0_0_n_n = DotDims.transposedRhs 512 2048 512 := rfl

theorem product_at (x y : FVec Ideal S512x2048 .bf16) (z : Fin 4) (s : Fin 128) (j : Fin 512) :
    k0_pay2 (k0_pay1 x y) (ix3 z s j) = ∑ k : Fin 2048, x (ix2 (up4 z s) k) * y (ix2 j k) := by
  unfold k0_pay2 k0_pay1
  dsimp only
  rw [shapeCast_self, shapeCast_self, shapeCast_self, shapeCast_apply _ _ (ix3 z s j) (ix2 (up4 z s) j)
    (by rw [Shape.rowMajor_val_two, Shape.rowMajor_val_three]; show (128 * z.val + s.val) * 512 + j.val = (z.val * 128 + s.val) * 512 + j.val; omega), truncf_apply, dots_eq]
  refine (Ideal.matmul_transposedRhs_apply none x y (constant S512x512 .f32 0x00000000#32) (up4 z s) j).trans ?_
  rw [constant_apply, Ideal.ofBits_zero_f32, zero_add]

/-! ## The contents at an index -/

section Contents

variable (m : (ℓ : Loc nD τ sig) → Buf (Elt Ideal) ℓ)

/-- Device `c`'s share of an entry of the result. -/
def part (c : Dev nD) (a b : Fin 512) : EReal := ∑ k : Fin 2048, X0 m c (ix2 a k) * X1 m c (ix2 b k)
/-- The entry. -/
def entry (a b : Fin 512) : EReal := ∑ q : Fin 8, ∑ z : Fin 4, part m (at2 z q) a b

theorem PB_at (c : Dev nD) (z : Fin 4) (s : Fin 128) (j : Fin 512) : PB m c (ix3 z s j) = part m c (up4 z s) j := product_at _ _ z s j
theorem ZB_at (c : Dev nD) (z : Fin 4) (s : Fin 128) (j : Fin 512) : ZB m c (ix3 z s j) = part m (at2 z (col c)) (up4 (row c) s) j :=
  (congrArg (PB m (at2 z (col c))) (eq_ix3 (put4 (row c) (ix3 z s j)))).trans (PB_at m (at2 z (col c)) (row c) s j)
theorem ZA_at (c : Dev nD) (q : Fin 8) (r : Fin 16) (j : Fin 512) :
    ZA m c (ix3 q r j) = ∑ z : Fin 4, part m (at2 z (col c)) (up4 (row c) (up8 q r)) j :=
  (sum4_at _ q r j).trans (Finset.sum_congr rfl fun z _ => ZB_at m c z (up8 q r) j)
theorem PP_at (c : Dev nD) (q : Fin 8) (r : Fin 16) (j : Fin 512) :
    PP m c (ix3 q r j) = ∑ z : Fin 4, part m (at2 z q) (up4 (row c) (up8 (col c) r)) j := by
  refine ((congrArg (ZA m (at2 (row c) q)) (eq_ix3 (put8 (col c) (ix3 q r j)))).trans (ZA_at m (at2 (row c) q) (col c) r j)).trans ?_
  rw [row_at2, col_at2]
theorem G16_at (c : Dev nD) (r : Fin 16) (j : Fin 512) : G16 m c (ix3 (0 : Fin 1) r j) = entry m (up4 (row c) (up8 (col c) r)) j :=
  (sum8_at _ r j).trans (Finset.sum_congr rfl fun q _ => PP_at m c q r j)
theorem GP_at (c : Dev nD) (q : Fin 8) (r : Fin 16) (j : Fin 512) : GP m c (ix3 q r j) = entry m (up4 (row c) (up8 q r)) j := by
  refine ((congrArg (G16 m (at2 (row c) q)) (eq_ix3 (in8 (ix3 q r j)))).trans (G16_at m (at2 (row c) q) r j)).trans ?_
  rw [row_at2, col_at2]
theorem BL_at (c : Dev nD) (s : Fin 128) (j : Fin 512) : BL m c (ix2 s j) = entry m (up4 (row c) s) j := by
  obtain ⟨q, r, rfl⟩ := up8_surj s
  exact (block_at _ q r j).trans (GP_at m c q r j)
theorem GZ_at (c : Dev nD) (z : Fin 4) (s : Fin 128) (j : Fin 512) : GZ m c (ix3 z s j) = entry m (up4 z s) j := by
  refine ((congrArg (k0_pay9 (BL m (at2 z (col c)))) (eq_ix3 (in4 (ix3 z s j)))).trans (lead_at _ s j)).trans ?_
  rw [BL_at, row_at2]
theorem OUT_at (c : Dev nD) (a b : Fin 512) : OUT m c (ix2 a b) = entry m a b := by
  obtain ⟨z, s, rfl⟩ := up4_surj a
  exact (whole_at _ z s b).trans (GZ_at m c z s b)

/-- The devices, by row and column; the contracted positions, by device. -/
def grid : Fin 8 × Fin 4 ≃ Dev nD where
  toFun x := at2 x.2 x.1
  invFun c := (col c, row c)
  left_inv x := Prod.ext (col_at2 x.2 x.1) (row_at2 x.2 x.1)
  right_inv c := at2_row_col c
def places : Dev nD × Fin 2048 ≃ Fin 65536 := finProdFinEquiv

theorem entry_eq (a b : Fin 512) : entry m a b = ∑ c : Dev nD, part m c a b := by
  rw [← Equiv.sum_comp grid, Fintype.sum_prod_type]
  exact Finset.sum_congr rfl fun q _ => Finset.sum_congr rfl fun z _ => rfl

/-- Where every device's arguments are its blocks of two whole arrays, the entry is their rows' dot product. -/
theorem entry_whole (A B : (⟨2, ![512, 65536]⟩ : Shape).Idx → EReal)
    (hA : ∀ c, X0 m c = Layout.block ⟨2, ![512, 2048]⟩ ⟨2, ![512, 65536]⟩ 1 32 c A)
    (hB : ∀ c, X1 m c = Layout.block ⟨2, ![512, 2048]⟩ ⟨2, ![512, 65536]⟩ 1 32 c B) (a b : Fin 512) :
    entry m a b = ∑ k : Fin 65536, A (ix2 a k) * B (ix2 b k) := by
  rw [entry_eq, ← Equiv.sum_comp places, Fintype.sum_prod_type]
  refine Finset.sum_congr rfl fun c _ => Finset.sum_congr rfl fun k _ => ?_
  rw [hA, hB]
  have h (x : Fin 512) (X : (⟨2, ![512, 65536]⟩ : Shape).Idx → EReal) :
      Layout.block ⟨2, ![512, 2048]⟩ ⟨2, ![512, 65536]⟩ 1 32 c X (by decide) (ix2 x k) = X (ix2 x (places (c, k))) := by
    refine congrArg X (funext fun d => Fin.ext ?_)
    match d with
    | ⟨0, _⟩ => rfl
    | ⟨1, _⟩ => show c.val * 2048 + k.val = k.val + 2048 * c.val; omega
  exact congrArg₂ (· * ·) (h a A) (h b B)

end Contents

end Cert.KernelIdeal.Proto

end
-- ==== Proof.lean ====
/-
# The proof of the claims

The frames are the runs read at the arguments; the value is the run read at the result, against the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Value
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-- The kernel on 32 devices ends without fault, with its arguments unchanged and every counter at zero. -/
theorem frame_kernel : Cert.quiescent_Kernel := by
  intro m ρ _
  exact (θ_run _ _ _).mono (fun _ h => ⟨fun c => ⟨(h.1 c (0 : Fin 3)).trans (Kernel.Proto.finalA_0 m ρ c), (h.1 c (1 : Fin 3)).trans (Kernel.Proto.finalA_1 m ρ c)⟩, h.2⟩)
    (Kernel.Proto.run_main (F := Bits) m ρ)

/-- The same of the kernel over the extended reals. -/
theorem frame_ideal : Cert.quiescent_KernelIdeal := by
  intro m ρ _
  exact (θ_run _ _ _).mono (fun _ h => ⟨fun c => ⟨(h.1 c (0 : Fin 3)).trans (KernelIdeal.Proto.finalA_0 m ρ c), (h.1 c (1 : Fin 3)).trans (KernelIdeal.Proto.finalA_1 m ρ c)⟩, h.2⟩)
    (KernelIdeal.Proto.run_main (F := Ideal) m ρ)

/-- The same of the reference over the extended reals. -/
theorem frame_reference : Cert.quiescent_ReferenceIdeal := by
  intro m ρ _
  exact (θ_run _ _ _).mono (fun r h => ⟨fun c => (h c).2, sem_eq_zero_of_no_sems (by decide) r.2⟩) (ReferenceIdeal.Value.run (F := Ideal) m ρ)

/-! ## The value -/

/-- The product of two whole arrays, as the reference computes it. -/
def product (A B : FVec Ideal ReferenceIdeal.S512x65536 .bf16) : FVec Ideal ReferenceIdeal.S512x512 .f32 :=
  Host.dotGeneral ReferenceIdeal.dot_S512x65536_S65536x512_S512x512_1_0_0_1_n_n none (extf .f32 A ReferenceIdeal.Gen.bitsLt_bf16_f32)
    (transpose ReferenceIdeal.S65536x512 [1, 0] (extf .f32 B ReferenceIdeal.Gen.bitsLt_bf16_f32) ReferenceIdeal.Gen.transposes_S512x65536_S65536x512_1_0)

/-- The reference contracts the left array's columns with the right array's rows. -/
theorem dots_plain : ReferenceIdeal.dot_S512x65536_S65536x512_S512x512_1_0_0_1_n_n = DotDims.plain 512 65536 512 := rfl

/-- An entry of the product: row `a` of the one array times row `b` of the other, over all 65536 columns. -/
theorem product_at (A B : FVec Ideal ReferenceIdeal.S512x65536 .bf16) (a b : Fin 512) :
    product A B (ix2 a b) = ∑ k : Fin 65536, (A (ix2 a k) * B (ix2 b k) : EReal) := by
  unfold product
  rw [dots_plain]
  exact (StackMember.dotGeneral_plain_apply none _ _ a b).trans
    (Finset.sum_congr rfl fun k _ => congrArg (fun x : EReal => A (ix2 a k) * x) (transpose_ix2_apply B _ k b))

section Arrays

variable (m : (ℓ : Loc KernelIdeal.nD KernelIdeal.τ KernelIdeal.sig) → Buf (Elt Ideal) ℓ) (ρ : Dev KernelIdeal.nD → PrngReg)

/-- The first argument's window is the whole array. -/
theorem arg0_whole (c : Dev KernelIdeal.nD) : KernelIdeal.Proto.X0 m c = m ((c.tc : Thread KernelIdeal.nD KernelIdeal.τ).loc KernelIdeal.main_arg0) :=
  Memref.read_access_unit_zero (Elt Ideal) KernelIdeal.main_arg0 (funext fun a => by fin_cases a <;> decide) (fun a => by fin_cases a <;> decide) _
/-- The second argument's window is the whole array. -/
theorem arg1_whole (c : Dev KernelIdeal.nD) : KernelIdeal.Proto.X1 m c = m ((c.tc : Thread KernelIdeal.nD KernelIdeal.τ).loc KernelIdeal.main_arg1) :=
  Memref.read_access_unit_zero (Elt Ideal) KernelIdeal.main_arg1 (funext fun a => by fin_cases a <;> decide) (fun a => by fin_cases a <;> decide) _
/-- The result array holds, at the end, what the kernel computed. -/
theorem result_whole (c : Dev KernelIdeal.nD) : KernelIdeal.Proto.finalA m ρ c (2 : Fin 3) = KernelIdeal.Proto.OUT m c :=
  (Memref.read_access_unit_zero (Elt Ideal) KernelIdeal.main_v1 (funext fun a => by fin_cases a <;> decide) (fun a => by fin_cases a <;> decide) _).symm.trans
    (KernelIdeal.Proto.finalA_2 m ρ c)

end Arrays

/-- Over the extended reals every device of the kernel ends with the reference's product as its result. -/
theorem algebraic : Cert.algebraic_KernelIdeal_ReferenceIdeal := by
  intro m ρ m' ρ' _ hagree
  refine ⟨product (m' (((0 : Dev ReferenceIdeal.nD).tc : Thread ReferenceIdeal.nD ReferenceIdeal.τ).loc ReferenceIdeal.main_arg0))
    (m' (((0 : Dev ReferenceIdeal.nD).tc : Thread ReferenceIdeal.nD ReferenceIdeal.τ).loc ReferenceIdeal.main_arg1)), ?_, ?_⟩
  · refine (θ_run _ _ _).mono (fun _ h c => ⟨(h.1 c (2 : Fin 3)).trans ((result_whole m ρ c).trans ?_),
      (h.1 c (0 : Fin 3)).trans (KernelIdeal.Proto.finalA_0 m ρ c), (h.1 c (1 : Fin 3)).trans (KernelIdeal.Proto.finalA_1 m ρ c)⟩)
      (KernelIdeal.Proto.run_main (F := Ideal) m ρ)
    funext i
    rw [eq_ix2 i]
    refine (KernelIdeal.Proto.OUT_at m c (i 0) (i 1)).trans (Eq.trans ?_ (product_at _ _ (i 0) (i 1)).symm)
    exact KernelIdeal.Proto.entry_whole m _ _ (fun c => (arg0_whole m c).trans (hagree c).1) (fun c => (arg1_whole m c).trans (hagree c).2) (i 0) (i 1)
  · exact (θ_run _ _ _).mono (fun _ h => h 0) (ReferenceIdeal.Value.run (F := Ideal) m' ρ')

/-- All the claims. -/
theorem claim : Cert.Claim :=
  ⟨Cert.Kernel.Gen.facts, Cert.KernelIdeal.Gen.facts, Cert.ReferenceIdeal.Gen.facts, frame_kernel, frame_ideal, frame_reference, trivial, algebraic⟩

end Cert.Proof

end
